-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "scale" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x2048x3072 : Shape := ⟨3, ![8, 2048, 3072]⟩
abbrev S8x2048x4096 : Shape := ⟨3, ![8, 2048, 4096]⟩
abbrev S8x2048x64 : Shape := ⟨3, ![8, 2048, 64]⟩
abbrev S8x256x4096 : Shape := ⟨3, ![8, 256, 4096]⟩
abbrev S8x256x64 : Shape := ⟨3, ![8, 256, 64]⟩
abbrev S2x2048x8192 : Shape := ⟨3, ![2, 2048, 8192]⟩
abbrev S2x8192x2048 : Shape := ⟨3, ![2, 8192, 2048]⟩
abbrev S_ : Shape := ⟨0, ![]⟩
abbrev S262144x256 : Shape := ⟨2, ![262144, 256]⟩
abbrev S262144x128 : Shape := ⟨2, ![262144, 128]⟩
abbrev S32768x256 : Shape := ⟨2, ![32768, 256]⟩
abbrev S32768x128 : Shape := ⟨2, ![32768, 128]⟩

class Facts : Prop where
  bitsLt_bf16_f32 : FTy.bits .bf16 < FTy.bits .f32
  bcast_S_S8x2048x3072 : S_.BroadcastsInDim S8x2048x3072 (![] : Fin 0 → Fin S8x2048x3072.rank)
  reducesTo_S8x2048x3072_S_d0_1_2 : S8x2048x3072.ReducesTo [0, 1, 2] S_
  h_S_ : 0 < S_.numel
  shapeCasts_S8x2048x4096_S262144x256 : S8x2048x4096.ShapeCasts S262144x256
  slices_S262144x256_S262144x128_0_0 : S262144x256.Slices ![0, 0] S262144x128
  bcast_S_S262144x128 : S_.BroadcastsInDim S262144x128 (![] : Fin 0 → Fin S262144x128.rank)
  reducesTo_S262144x128_S_d0_1 : S262144x128.ReducesTo [0, 1] S_
  bcast_S_S8x2048x64 : S_.BroadcastsInDim S8x2048x64 (![] : Fin 0 → Fin S8x2048x64.rank)
  reducesTo_S8x2048x64_S_d0_1_2 : S8x2048x64.ReducesTo [0, 1, 2] S_
  shapeCasts_S8x256x4096_S32768x256 : S8x256x4096.ShapeCasts S32768x256
  slices_S32768x256_S32768x128_0_0 : S32768x256.Slices ![0, 0] S32768x128
  bcast_S_S32768x128 : S_.BroadcastsInDim S32768x128 (![] : Fin 0 → Fin S32768x128.rank)
  reducesTo_S32768x128_S_d0_1 : S32768x128.ReducesTo [0, 1] S_
  bcast_S_S8x256x64 : S_.BroadcastsInDim S8x256x64 (![] : Fin 0 → Fin S8x256x64.rank)
  reducesTo_S8x256x64_S_d0_1_2 : S8x256x64.ReducesTo [0, 1, 2] S_

variable [Facts]

def fn_part1 {F : FTy → Type} [FloatOps F] (main_arg3 : FVec F S8x256x4096 .bf16) (main_arg4 : FVec F S8x256x64 .bf16) (main_v12 : IVec S_ 1) (main_v17 : IVec S_ 1) : IVec S_ 1 :=
  let main_v18 : IVec S_ 1 := andi main_v12 main_v17
  let main_v19 : FVec F S32768x256 .bf16 := shapeCast S32768x256 main_arg3 shapeCasts_S8x256x4096_S32768x256
  let main_v20 : FVec F S32768x128 .bf16 := (extractStridedSlice S32768x128 ![0, 0] · slices_S32768x256_S32768x128_0_0) main_v19
  let main_v21 : FVec F S32768x128 .f32 := (extf .f32 · bitsLt_bf16_f32) main_v20
  let main_v22 : FVec F S32768x128 .f32 := Host.absf main_v21
  let main_cst_4 : FVec F S_ .f32 := constant S_ .f32 0x7F800000#32
  let main_v23 : FVec F S32768x128 .f32 := broadcastInDim S32768x128 ![] bcast_S_S32768x128 main_cst_4
  let main_v24 : IVec S32768x128 1 := cmpf .olt main_v22 main_v23
  let main_c_5 : IVec S_ 1 := constantI S_ 1 1#1
  let main_v25 : IVec S_ 1 := (fun x v => Host.reduce IntOp.andi x v reducesTo_S32768x128_S_d0_1 h_S_) main_v24 main_c_5
  let main_v26 : IVec S_ 1 := andi main_v18 main_v25
  let main_v27 : FVec F S8x256x64 .f32 := (extf .f32 · bitsLt_bf16_f32) main_arg4
  let main_v28 : FVec F S8x256x64 .f32 := Host.absf main_v27
  let main_cst_6 : FVec F S_ .f32 := constant S_ .f32 0x7F800000#32
  let main_v29 : FVec F S8x256x64 .f32 := broadcastInDim S8x256x64 ![] bcast_S_S8x256x64 main_cst_6
  let main_v30 : IVec S8x256x64 1 := cmpf .olt main_v28 main_v29
  let main_c_7 : IVec S_ 1 := constantI S_ 1 1#1
  let main_v31 : IVec S_ 1 := (fun x v => Host.reduce IntOp.andi x v reducesTo_S8x256x64_S_d0_1_2 h_S_) main_v30 main_c_7
  let main_v32 : IVec S_ 1 := andi main_v26 main_v31
  main_v32

def fn {F : FTy → Type} [FloatOps F] (main_arg0 : FVec F S8x2048x3072 .bf16) (main_arg1 : FVec F S8x2048x4096 .bf16) (main_arg2 : FVec F S8x2048x64 .bf16) (main_arg3 : FVec F S8x256x4096 .bf16) (main_arg4 : FVec F S8x256x64 .bf16) (main_arg5 : FVec F S2x2048x8192 .f32) (main_arg6 : FVec F S2x8192x2048 .f32) : IVec S_ 1 :=
  let main_v0 : FVec F S8x2048x3072 .f32 := (extf .f32 · bitsLt_bf16_f32) main_arg0
  let main_v1 : FVec F S8x2048x3072 .f32 := Host.absf main_v0
  let main_cst : FVec F S_ .f32 := constant S_ .f32 0x7F800000#32
  let main_v2 : FVec F S8x2048x3072 .f32 := broadcastInDim S8x2048x3072 ![] bcast_S_S8x2048x3072 main_cst
  let main_v3 : IVec S8x2048x3072 1 := cmpf .olt main_v1 main_v2
  let main_c : IVec S_ 1 := constantI S_ 1 1#1
  let main_v4 : IVec S_ 1 := (fun x v => Host.reduce IntOp.andi x v reducesTo_S8x2048x3072_S_d0_1_2 h_S_) main_v3 main_c
  let main_v5 : FVec F S262144x256 .bf16 := shapeCast S262144x256 main_arg1 shapeCasts_S8x2048x4096_S262144x256
  let main_v6 : FVec F S262144x128 .bf16 := (extractStridedSlice S262144x128 ![0, 0] · slices_S262144x256_S262144x128_0_0) main_v5
  let main_v7 : FVec F S262144x128 .f32 := (extf .f32 · bitsLt_bf16_f32) main_v6
  let main_v8 : FVec F S262144x128 .f32 := Host.absf main_v7
  let main_cst_0 : FVec F S_ .f32 := constant S_ .f32 0x7F800000#32
  let main_v9 : FVec F S262144x128 .f32 := broadcastInDim S262144x128 ![] bcast_S_S262144x128 main_cst_0
  let main_v10 : IVec S262144x128 1 := cmpf .olt main_v8 main_v9
  let main_c_1 : IVec S_ 1 := constantI S_ 1 1#1
  let main_v11 : IVec S_ 1 := (fun x v => Host.reduce IntOp.andi x v reducesTo_S262144x128_S_d0_1 h_S_) main_v10 main_c_1
  let main_v12 : IVec S_ 1 := andi main_v4 main_v11
  let main_v13 : FVec F S8x2048x64 .f32 := (extf .f32 · bitsLt_bf16_f32) main_arg2
  let main_v14 : FVec F S8x2048x64 .f32 := Host.absf main_v13
  let main_cst_2 : FVec F S_ .f32 := constant S_ .f32 0x7F800000#32
  let main_v15 : FVec F S8x2048x64 .f32 := broadcastInDim S8x2048x64 ![] bcast_S_S8x2048x64 main_cst_2
  let main_v16 : IVec S8x2048x64 1 := cmpf .olt main_v14 main_v15
  let main_c_3 : IVec S_ 1 := constantI S_ 1 1#1
  let main_v17 : IVec S_ 1 := (fun x v => Host.reduce IntOp.andi x v reducesTo_S8x2048x64_S_d0_1_2 h_S_) main_v16 main_c_3
  fn_part1 (F := F) main_arg3 main_arg4 main_v12 main_v17
-- ==== Kernel.lean ====
abbrev S8x2048x3072 : Shape := ⟨3, ![8, 2048, 3072]⟩
abbrev S8x2048x4096 : Shape := ⟨3, ![8, 2048, 4096]⟩
abbrev S8x2048x64 : Shape := ⟨3, ![8, 2048, 64]⟩
abbrev S8x256x4096 : Shape := ⟨3, ![8, 256, 4096]⟩
abbrev S8x256x64 : Shape := ⟨3, ![8, 256, 64]⟩
abbrev S2x2048x8192 : Shape := ⟨3, ![2, 2048, 8192]⟩
abbrev S2x8192x2048 : Shape := ⟨3, ![2, 8192, 2048]⟩
abbrev S16384x16x192 : Shape := ⟨3, ![16384, 16, 192]⟩
abbrev S16384x16x128 : Shape := ⟨3, ![16384, 16, 128]⟩
abbrev S16384x2048 : Shape := ⟨2, ![16384, 2048]⟩
abbrev S16384x16x64 : Shape := ⟨3, ![16384, 16, 64]⟩
abbrev S_ : Shape := ⟨0, ![]⟩
abbrev S16384x4096 : Shape := ⟨2, ![16384, 4096]⟩
abbrev S8x2048x128 : Shape := ⟨3, ![8, 2048, 128]⟩
abbrev S16384x128 : Shape := ⟨2, ![16384, 128]⟩
abbrev S2048x4096 : Shape := ⟨2, ![2048, 4096]⟩
abbrev S8x256x128 : Shape := ⟨3, ![8, 256, 128]⟩
abbrev S2048x128 : Shape := ⟨2, ![2048, 128]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S2048x256 : Shape := ⟨2, ![2048, 256]⟩
abbrev S2048x512 : Shape := ⟨2, ![2048, 512]⟩
abbrev S256x512 : Shape := ⟨2, ![256, 512]⟩
abbrev S256x128 : Shape := ⟨2, ![256, 128]⟩
abbrev S1x32x8192 : Shape := ⟨3, ![1, 32, 8192]⟩
abbrev S1x128x2048 : Shape := ⟨3, ![1, 128, 2048]⟩
abbrev S32x8192 : Shape := ⟨2, ![32, 8192]⟩
abbrev S128x2048 : Shape := ⟨2, ![128, 2048]⟩
abbrev S2x2304x256 : Shape := ⟨3, ![2, 2304, 256]⟩
abbrev S2x256x2304 : Shape := ⟨3, ![2, 256, 2304]⟩
abbrev S2304x128 : Shape := ⟨2, ![2304, 128]⟩
abbrev S1x2304x256 : Shape := ⟨3, ![1, 2304, 256]⟩
abbrev S2304x256 : Shape := ⟨2, ![2304, 256]⟩
abbrev S1x2304x128 : Shape := ⟨3, ![1, 2304, 128]⟩
abbrev S1x2048x128 : Shape := ⟨3, ![1, 2048, 128]⟩
abbrev S1x256x128 : Shape := ⟨3, ![1, 256, 128]⟩
abbrev S256x256 : Shape := ⟨2, ![256, 256]⟩
abbrev S1x256x256 : Shape := ⟨3, ![1, 256, 256]⟩
abbrev S1x256x2304 : Shape := ⟨3, ![1, 256, 2304]⟩
abbrev S256x2304 : Shape := ⟨2, ![256, 2304]⟩
abbrev S256 : Shape := ⟨1, ![256]⟩
abbrev S256x1 : Shape := ⟨2, ![256, 1]⟩
abbrev S1x32x512 : Shape := ⟨3, ![1, 32, 512]⟩
abbrev S32x512 : Shape := ⟨2, ![32, 512]⟩
abbrev S1x128x128 : Shape := ⟨3, ![1, 128, 128]⟩
abbrev S128x128 : Shape := ⟨2, ![128, 128]⟩

abbrev nBuf : Space → Nat
  | .hbm => 29
  | .vmem => 25
  | .smem => 0
  | _ => 0

abbrev bufTy : (tb : Table) → Fin (tcTables nBuf tb) → BufTy
  | .hbm, ⟨0, _⟩ => ⟨S8x2048x3072, .bf16⟩
  | .hbm, ⟨1, _⟩ => ⟨S8x2048x4096, .bf16⟩
  | .hbm, ⟨2, _⟩ => ⟨S8x2048x64, .bf16⟩
  | .hbm, ⟨3, _⟩ => ⟨S8x256x4096, .bf16⟩
  | .hbm, ⟨4, _⟩ => ⟨S8x256x64, .bf16⟩
  | .hbm, ⟨5, _⟩ => ⟨S2x2048x8192, .f32⟩
  | .hbm, ⟨6, _⟩ => ⟨S2x8192x2048, .f32⟩
  | .hbm, ⟨7, _⟩ => ⟨S16384x16x192, .bf16⟩
  | .hbm, ⟨8, _⟩ => ⟨S16384x16x128, .bf16⟩
  | .hbm, ⟨9, _⟩ => ⟨S16384x2048, .bf16⟩
  | .hbm, ⟨10, _⟩ => ⟨S16384x16x64, .bf16⟩
  | .hbm, ⟨11, _⟩ => ⟨S_, .bf16⟩
  | .hbm, ⟨12, _⟩ => ⟨S16384x16x128, .bf16⟩
  | .hbm, ⟨13, _⟩ => ⟨S16384x2048, .bf16⟩
  | .hbm, ⟨14, _⟩ => ⟨S16384x4096, .bf16⟩
  | .hbm, ⟨15, _⟩ => ⟨S_, .bf16⟩
  | .hbm, ⟨16, _⟩ => ⟨S8x2048x128, .bf16⟩
  | .hbm, ⟨17, _⟩ => ⟨S16384x128, .bf16⟩
  | .hbm, ⟨18, _⟩ => ⟨S2048x4096, .bf16⟩
  | .hbm, ⟨19, _⟩ => ⟨S_, .bf16⟩
  | .hbm, ⟨20, _⟩ => ⟨S8x256x128, .bf16⟩
  | .hbm, ⟨21, _⟩ => ⟨S2048x128, .bf16⟩
  | .hbm, ⟨22, _⟩ => ⟨S1x2048x8192, .f32⟩
  | .hbm, ⟨23, _⟩ => ⟨S2048x8192, .f32⟩
  | .hbm, ⟨24, _⟩ => ⟨S1x8192x2048, .f32⟩
  | .hbm, ⟨25, _⟩ => ⟨S8192x2048, .f32⟩
  | .hbm, ⟨26, _⟩ => ⟨S16384x2048, .bf16⟩
  | .hbm, ⟨27, _⟩ => ⟨S2048x8192, .bf16⟩
  | .hbm, ⟨28, _⟩ => ⟨S8192x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S2048x512, .bf16⟩
  | .local _ .vmem, ⟨6, _⟩ => ⟨S2048x128, .bf16⟩
  | .local _ .vmem, ⟨7, _⟩ => ⟨S2048x128, .bf16⟩
  | .local _ .vmem, ⟨8, _⟩ => ⟨S256x512, .bf16⟩
  | .local _ .vmem, ⟨9, _⟩ => ⟨S256x512, .bf16⟩
  | .local _ .vmem, ⟨10, _⟩ => ⟨S256x128, .bf16⟩
  | .local _ .vmem, ⟨11, _⟩ => ⟨S256x128, .bf16⟩
  | .local _ .vmem, ⟨12, _⟩ => ⟨S1x32x8192, .f32⟩
  | .local _ .vmem, ⟨13, _⟩ => ⟨S1x32x8192, .f32⟩
  | .local _ .vmem, ⟨14, _⟩ => ⟨S1x128x2048, .f32⟩
  | .local _ .vmem, ⟨15, _⟩ => ⟨S1x128x2048, .f32⟩
  | .local _ .vmem, ⟨16, _⟩ => ⟨S2048x256, .bf16⟩
  | .local _ .vmem, ⟨17, _⟩ => ⟨S2048x256, .bf16⟩
  | .local _ .vmem, ⟨18, _⟩ => ⟨S32x8192, .bf16⟩
  | .local _ .vmem, ⟨19, _⟩ => ⟨S32x8192, .bf16⟩
  | .local _ .vmem, ⟨20, _⟩ => ⟨S128x2048, .bf16⟩
  | .local _ .vmem, ⟨21, _⟩ => ⟨S128x2048, .bf16⟩
  | .local _ .vmem, ⟨22, _⟩ => ⟨S2x2304x256, .bf16⟩
  | .local _ .vmem, ⟨23, _⟩ => ⟨S2x2304x256, .bf16⟩
  | .local _ .vmem, ⟨24, _⟩ => ⟨S2x256x2304, .f32⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "scale" => some (((Real.sqrt 192)⁻¹ * (Real.log 2)⁻¹ : ℝ) : EReal)
  | _ => none
-- ==== ReferenceIdeal.lean ====
abbrev S8x2048x3072 : Shape := ⟨3, ![8, 2048, 3072]⟩
abbrev S8x2048x4096 : Shape := ⟨3, ![8, 2048, 4096]⟩
abbrev S8x2048x64 : Shape := ⟨3, ![8, 2048, 64]⟩
abbrev S8x256x4096 : Shape := ⟨3, ![8, 256, 4096]⟩
abbrev S8x256x64 : Shape := ⟨3, ![8, 256, 64]⟩
abbrev S2x2048x8192 : Shape := ⟨3, ![2, 2048, 8192]⟩
abbrev S2x8192x2048 : Shape := ⟨3, ![2, 8192, 2048]⟩
abbrev S8x2048x16x192 : Shape := ⟨4, ![8, 2048, 16, 192]⟩
abbrev S8x16x2048x192 : Shape := ⟨4, ![8, 16, 2048, 192]⟩
abbrev S8x2048x16x256 : Shape := ⟨4, ![8, 2048, 16, 256]⟩
abbrev S8x16x2048x256 : Shape := ⟨4, ![8, 16, 2048, 256]⟩
abbrev S8x16x2048x128 : Shape := ⟨4, ![8, 16, 2048, 128]⟩
abbrev S8x1x2048x64 : Shape := ⟨4, ![8, 1, 2048, 64]⟩
abbrev S8x16x2048x64 : Shape := ⟨4, ![8, 16, 2048, 64]⟩
abbrev S8x256x16x256 : Shape := ⟨4, ![8, 256, 16, 256]⟩
abbrev S8x16x256x256 : Shape := ⟨4, ![8, 16, 256, 256]⟩
abbrev S8x16x256x128 : Shape := ⟨4, ![8, 16, 256, 128]⟩
abbrev S8x1x256x64 : Shape := ⟨4, ![8, 1, 256, 64]⟩
abbrev S8x16x256x64 : Shape := ⟨4, ![8, 16, 256, 64]⟩
abbrev S8x16x256x192 : Shape := ⟨4, ![8, 16, 256, 192]⟩
abbrev S8x16x2304x192 : Shape := ⟨4, ![8, 16, 2304, 192]⟩
abbrev S8x16x2304x128 : Shape := ⟨4, ![8, 16, 2304, 128]⟩
abbrev S_ : Shape := ⟨0, ![]⟩
abbrev S8x16x2048x2304 : Shape := ⟨4, ![8, 16, 2048, 2304]⟩
abbrev S8x16x2048 : Shape := ⟨3, ![8, 16, 2048]⟩
abbrev S8x16x2048x1 : Shape := ⟨4, ![8, 16, 2048, 1]⟩
abbrev S8x2048x16x128 : Shape := ⟨4, ![8, 2048, 16, 128]⟩
abbrev S8x2048x2048 : Shape := ⟨3, ![8, 2048, 2048]⟩
abbrev S16384x2048 : Shape := ⟨2, ![16384, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x3072, .bf16⟩
  | .hbm, ⟨1, _⟩ => ⟨S8x2048x4096, .bf16⟩
  | .hbm, ⟨2, _⟩ => ⟨S8x2048x64, .bf16⟩
  | .hbm, ⟨3, _⟩ => ⟨S8x256x4096, .bf16⟩
  | .hbm, ⟨4, _⟩ => ⟨S8x256x64, .bf16⟩
  | .hbm, ⟨5, _⟩ => ⟨S2x2048x8192, .f32⟩
  | .hbm, ⟨6, _⟩ => ⟨S2x8192x2048, .f32⟩
  | .hbm, ⟨7, _⟩ => ⟨S8x2048x3072, .f32⟩
  | .hbm, ⟨8, _⟩ => ⟨S8x2048x4096, .f32⟩
  | .hbm, ⟨9, _⟩ => ⟨S8x2048x64, .f32⟩
  | .hbm, ⟨10, _⟩ => ⟨S8x256x4096, .f32⟩
  | .hbm, ⟨11, _⟩ => ⟨S8x256x64, .f32⟩
  | .hbm, ⟨12, _⟩ => ⟨S8x2048x16x192, .f32⟩
  | .hbm, ⟨13, _⟩ => ⟨S8x16x2048x192, .f32⟩
  | .hbm, ⟨14, _⟩ => ⟨S8x2048x16x256, .f32⟩
  | .hbm, ⟨15, _⟩ => ⟨S8x16x2048x256, .f32⟩
  | .hbm, ⟨16, _⟩ => ⟨S8x16x2048x128, .f32⟩
  | .hbm, ⟨17, _⟩ => ⟨S8x16x2048x128, .f32⟩
  | .hbm, ⟨18, _⟩ => ⟨S8x1x2048x64, .f32⟩
  | .hbm, ⟨19, _⟩ => ⟨S8x16x2048x64, .f32⟩
  | .hbm, ⟨20, _⟩ => ⟨S8x16x2048x192, .f32⟩
  | .hbm, ⟨21, _⟩ => ⟨S8x256x16x256, .f32⟩
  | .hbm, ⟨22, _⟩ => ⟨S8x16x256x256, .f32⟩
  | .hbm, ⟨23, _⟩ => ⟨S8x16x256x128, .f32⟩
  | .hbm, ⟨24, _⟩ => ⟨S8x16x256x128, .f32⟩
  | .hbm, ⟨25, _⟩ => ⟨S8x1x256x64, .f32⟩
  | .hbm, ⟨26, _⟩ => ⟨S8x16x256x64, .f32⟩
  | .hbm, ⟨27, _⟩ => ⟨S8x16x256x192, .f32⟩
  | .hbm, ⟨28, _⟩ => ⟨S8x16x2304x192, .f32⟩
  | .hbm, ⟨29, _⟩ => ⟨S8x16x2304x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x16x2048x2304, .f32⟩
  | .hbm, ⟨35, _⟩ => ⟨S8x16x2048x2304, .f32⟩
  | .hbm, ⟨36, _⟩ => ⟨S8x16x2048x2304, .f32⟩
  | .hbm, ⟨37, _⟩ => ⟨S_, .f32⟩
  | .hbm, ⟨38, _⟩ => ⟨S8x16x2048, .f32⟩
  | .hbm, ⟨39, _⟩ => ⟨S_, .f32⟩
  | .hbm, ⟨40, _⟩ => ⟨S8x16x2048, .f32⟩
  | .hbm, ⟨41, _⟩ => ⟨S8x16x2048, .f32⟩
  | .hbm, ⟨42, _⟩ => ⟨S8x16x2048x1, .f32⟩
  | .hbm, ⟨43, _⟩ => ⟨S8x16x2048x2304, .f32⟩
  | .hbm, ⟨44, _⟩ => ⟨S8x16x2048x2304, .f32⟩
  | .hbm, ⟨45, _⟩ => ⟨S8x16x2048x2304, .f32⟩
  | .hbm, ⟨46, _⟩ => ⟨S_, .f32⟩
  | .hbm, ⟨47, _⟩ => ⟨S8x16x2048, .f32⟩
  | .hbm, ⟨48, _⟩ => ⟨S8x16x2048x1, .f32⟩
  | .hbm, ⟨49, _⟩ => ⟨S8x16x2048x2304, .f32⟩
  | .hbm, ⟨50, _⟩ => ⟨S8x16x2048x2304, .f32⟩
  | .hbm, ⟨51, _⟩ => ⟨S8x16x2048x128, .f32⟩
  | .hbm, ⟨52, _⟩ => ⟨S8x2048x16x128, .f32⟩
  | .hbm, ⟨53, _⟩ => ⟨S8x2048x2048, .f32⟩
  | .hbm, ⟨54, _⟩ => ⟨S16384x2048, .f32⟩
  | .hbm, ⟨55, _⟩ => ⟨S16384x2048, .bf16⟩
  | .hbm, ⟨56, _⟩ => ⟨S1x2048x8192, .f32⟩
  | .hbm, ⟨57, _⟩ => ⟨S2048x8192, .f32⟩
  | .hbm, ⟨58, _⟩ => ⟨S2048x8192, .bf16⟩
  | .hbm, ⟨59, _⟩ => ⟨S1x8192x2048, .f32⟩
  | .hbm, ⟨60, _⟩ => ⟨S8192x2048, .f32⟩
  | .hbm, ⟨61, _⟩ => ⟨S8192x2048, .bf16⟩
  | _, _ => ⟨S8x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== Kernel2.lean ====
abbrev S8x2048x2048 : Shape := ⟨3, ![8, 2048, 2048]⟩
abbrev S2048 : Shape := ⟨1, ![2048]⟩
abbrev S8x2048 : Shape := ⟨2, ![8, 2048]⟩
abbrev S2048x8192 : Shape := ⟨2, ![2048, 8192]⟩
abbrev S8192x2048 : Shape := ⟨2, ![8192, 2048]⟩
abbrev S16384x2048 : Shape := ⟨2, ![16384, 2048]⟩
abbrev S1x2048 : Shape := ⟨2, ![1, 2048]⟩
abbrev S8x1x2048 : Shape := ⟨3, ![8, 1, 2048]⟩
abbrev S512x2048 : Shape := ⟨2, ![512, 2048]⟩
abbrev S1x1x2048 : Shape := ⟨3, ![1, 1, 2048]⟩
abbrev S2048x1024 : Shape := ⟨2, ![2048, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S512x1024 : Shape := ⟨2, ![512, 1024]⟩

abbrev nBuf : Space → Nat
  | .hbm => 17
  | .vmem => 18
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S2048x8192, .f32⟩
  | .hbm, ⟨6, _⟩ => ⟨S8192x2048, .f32⟩
  | .hbm, ⟨7, _⟩ => ⟨S2048, .f32⟩
  | .hbm, ⟨8, _⟩ => ⟨S16384x2048, .f32⟩
  | .hbm, ⟨9, _⟩ => ⟨S1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S2048x8192, .bf16⟩
  | .hbm, ⟨14, _⟩ => ⟨S8192x2048, .bf16⟩
  | .hbm, ⟨15, _⟩ => ⟨S1x2048, .f32⟩
  | .hbm, ⟨16, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S8x2048x2048 : Shape := ⟨3, ![8, 2048, 2048]⟩
abbrev S2048 : Shape := ⟨1, ![2048]⟩
abbrev S8x2048 : Shape := ⟨2, ![8, 2048]⟩
abbrev S2048x8192 : Shape := ⟨2, ![2048, 8192]⟩
abbrev S8192x2048 : Shape := ⟨2, ![8192, 2048]⟩
abbrev S8x1x2048 : Shape := ⟨3, ![8, 1, 2048]⟩
abbrev S_ : Shape := ⟨0, ![]⟩
abbrev S8x2048x1 : Shape := ⟨3, ![8, 2048, 1]⟩
abbrev S1x1x2048 : Shape := ⟨3, ![1, 1, 2048]⟩
abbrev S8x2048x8192 : Shape := ⟨3, ![8, 2048, 8192]⟩
abbrev S16384x2048 : Shape := ⟨2, ![16384, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S2048x8192, .f32⟩
  | .hbm, ⟨6, _⟩ => ⟨S8192x2048, .f32⟩
  | .hbm, ⟨7, _⟩ => ⟨S2048, .f32⟩
  | .hbm, ⟨8, _⟩ => ⟨S8x1x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S8x1x2048, .f32⟩
  | .hbm, ⟨26, _⟩ => ⟨S8x1x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x8192, .f32⟩
  | .hbm, ⟨35, _⟩ => ⟨S_, .f32⟩
  | .hbm, ⟨36, _⟩ => ⟨S8x2048x8192, .f32⟩
  | .hbm, ⟨37, _⟩ => ⟨S8x2048x8192, .f32⟩
  | .hbm, ⟨38, _⟩ => ⟨S8x2048x8192, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1, .f32⟩
  | .hbm, ⟨54, _⟩ => ⟨S8x2048x2048, .f32⟩
  | .hbm, ⟨55, _⟩ => ⟨S8x2048x2048, .f32⟩
  | .hbm, ⟨56, _⟩ => ⟨S1x1x2048, .f32⟩
  | .hbm, ⟨57, _⟩ => ⟨S8x2048x2048, .f32⟩
  | .hbm, ⟨58, _⟩ => ⟨S8x2048x2048, .f32⟩
  | .hbm, ⟨59, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel3.lean ====
abbrev S8x2048x2048 : Shape := ⟨3, ![8, 2048, 2048]⟩
abbrev S2048 : Shape := ⟨1, ![2048]⟩
abbrev S8x2048 : Shape := ⟨2, ![8, 2048]⟩
abbrev S2048x5120 : Shape := ⟨2, ![2048, 5120]⟩
abbrev S_ : Shape := ⟨0, ![]⟩
abbrev S1024 : Shape := ⟨1, ![1024]⟩
abbrev S4096 : Shape := ⟨1, ![4096]⟩
abbrev S5120 : Shape := ⟨1, ![5120]⟩
abbrev S16384x2048 : Shape := ⟨2, ![16384, 2048]⟩
abbrev S1x2048 : Shape := ⟨2, ![1, 2048]⟩
abbrev S8x1x2048 : Shape := ⟨3, ![8, 1, 2048]⟩
abbrev S1x5120 : Shape := ⟨2, ![1, 5120]⟩
abbrev S16384x5120 : Shape := ⟨2, ![16384, 5120]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 19
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x5120, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S4096, .f32⟩
  | .hbm, ⟨9, _⟩ => ⟨S5120, .f32⟩
  | .hbm, ⟨10, _⟩ => ⟨S16384x2048, .f32⟩
  | .hbm, ⟨11, _⟩ => ⟨S1x2048, .f32⟩
  | .hbm, ⟨12, _⟩ => ⟨S8x1x2048, .f32⟩
  | .hbm, ⟨13, _⟩ => ⟨S8x1x2048, .f32⟩
  | .hbm, ⟨14, _⟩ => ⟨S1x5120, .f32⟩
  | .hbm, ⟨15, _⟩ => ⟨S2048x5120, .f32⟩
  | .hbm, ⟨16, _⟩ => ⟨S2048x5120, .f32⟩
  | .hbm, ⟨17, _⟩ => ⟨S2048x5120, .bf16⟩
  | .hbm, ⟨18, _⟩ => ⟨S16384x5120, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x2048x2048 : Shape := ⟨3, ![8, 2048, 2048]⟩
abbrev S2048 : Shape := ⟨1, ![2048]⟩
abbrev S8x2048 : Shape := ⟨2, ![8, 2048]⟩
abbrev S2048x5120 : Shape := ⟨2, ![2048, 5120]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S8x2048x5120 : Shape := ⟨3, ![8, 2048, 5120]⟩
abbrev S8x2048x1024 : Shape := ⟨3, ![8, 2048, 1024]⟩
abbrev S8x2048x4096 : Shape := ⟨3, ![8, 2048, 4096]⟩
abbrev S16384x5120 : Shape := ⟨2, ![16384, 5120]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x5120, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x1x2048, .f32⟩
  | .hbm, ⟨22, _⟩ => ⟨S8x1x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x5120, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S8x2048x4096, .f32⟩
  | .hbm, ⟨36, _⟩ => ⟨S8x2048x5120, .f32⟩
  | .hbm, ⟨37, _⟩ => ⟨S16384x5120, .f32⟩
  | .hbm, ⟨38, _⟩ => ⟨S16384x5120, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel4.lean ====
abbrev S8x2048x1024 : Shape := ⟨3, ![8, 2048, 1024]⟩
abbrev S2048x2048 : Shape := ⟨2, ![2048, 2048]⟩
abbrev S8x2048x2048 : Shape := ⟨3, ![8, 2048, 2048]⟩
abbrev S8x2048 : Shape := ⟨2, ![8, 2048]⟩
abbrev S16384x1024 : Shape := ⟨2, ![16384, 1024]⟩
abbrev S16384x2048 : Shape := ⟨2, ![16384, 2048]⟩
abbrev S8x1x2048 : Shape := ⟨3, ![8, 1, 2048]⟩
abbrev S512x1024 : Shape := ⟨2, ![512, 1024]⟩
abbrev S512x2048 : Shape := ⟨2, ![512, 2048]⟩
abbrev S1x1x2048 : Shape := ⟨3, ![1, 1, 2048]⟩
abbrev S1x2048 : Shape := ⟨2, ![1, 2048]⟩
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S2048x2048, .f32⟩
  | .hbm, ⟨3, _⟩ => ⟨S8x2048x2048, .f32⟩
  | .hbm, ⟨4, _⟩ => ⟨S8x2048, .f32⟩
  | .hbm, ⟨5, _⟩ => ⟨S16384x1024, .bf16⟩
  | .hbm, ⟨6, _⟩ => ⟨S16384x1024, .bf16⟩
  | .hbm, ⟨7, _⟩ => ⟨S2048x2048, .bf16⟩
  | .hbm, ⟨8, _⟩ => ⟨S16384x2048, .f32⟩
  | .hbm, ⟨9, _⟩ => ⟨S8x1x2048, .f32⟩
  | .hbm, ⟨10, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S512x2048, .f32⟩
  | .local _ .vmem, ⟨10, _⟩ => ⟨S512x2048, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8x2048x1024 : Shape := ⟨3, ![8, 2048, 1024]⟩
abbrev S2048x2048 : Shape := ⟨2, ![2048, 2048]⟩
abbrev S8x2048x2048 : Shape := ⟨3, ![8, 2048, 2048]⟩
abbrev S8x2048 : Shape := ⟨2, ![8, 2048]⟩
abbrev S8x1x2048 : Shape := ⟨3, ![8, 1, 2048]⟩
abbrev S16384x2048 : Shape := ⟨2, ![16384, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S2048x2048, .f32⟩
  | .hbm, ⟨3, _⟩ => ⟨S8x2048x2048, .f32⟩
  | .hbm, ⟨4, _⟩ => ⟨S8x2048, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S8x2048x2048, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S16384x2048, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S8x2048x2048 : Shape := ⟨3, ![8, 2048, 2048]⟩
abbrev S2048x2048 : Shape := ⟨2, ![2048, 2048]⟩
abbrev S8x2048 : Shape := ⟨2, ![8, 2048]⟩
abbrev S16384x2048 : Shape := ⟨2, ![16384, 2048]⟩
abbrev S8x1x2048 : Shape := ⟨3, ![8, 1, 2048]⟩
abbrev S512x2048 : Shape := ⟨2, ![512, 2048]⟩
abbrev S1x1x2048 : Shape := ⟨3, ![1, 1, 2048]⟩
abbrev S1x2048 : Shape := ⟨2, ![1, 2048]⟩
abbrev S256x2048 : Shape := ⟨2, ![256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S8x2048x2048, .bf16⟩
  | .hbm, ⟨1, _⟩ => ⟨S2048x2048, .f32⟩
  | .hbm, ⟨2, _⟩ => ⟨S8x2048x2048, .f32⟩
  | .hbm, ⟨3, _⟩ => ⟨S8x2048, .f32⟩
  | .hbm, ⟨4, _⟩ => ⟨S16384x2048, .bf16⟩
  | .hbm, ⟨5, _⟩ => ⟨S2048x2048, .bf16⟩
  | .hbm, ⟨6, _⟩ => ⟨S16384x2048, .f32⟩
  | .hbm, ⟨7, _⟩ => ⟨S8x1x2048, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8x2048x2048 : Shape := ⟨3, ![8, 2048, 2048]⟩
abbrev S2048x2048 : Shape := ⟨2, ![2048, 2048]⟩
abbrev S8x2048 : Shape := ⟨2, ![8, 2048]⟩
abbrev S8x1x2048 : Shape := ⟨3, ![8, 1, 2048]⟩
abbrev S16384x2048 : Shape := ⟨2, ![16384, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S2048x2048, .f32⟩
  | .hbm, ⟨2, _⟩ => ⟨S8x2048x2048, .f32⟩
  | .hbm, ⟨3, _⟩ => ⟨S8x2048, .f32⟩
  | .hbm, ⟨4, _⟩ => ⟨S8x1x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S16384x2048, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S8x2048x512 : Shape := ⟨3, ![8, 2048, 512]⟩
abbrev S512x4096 : Shape := ⟨2, ![512, 4096]⟩
abbrev S16384x512 : Shape := ⟨2, ![16384, 512]⟩
abbrev S16384x4096 : Shape := ⟨2, ![16384, 4096]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x512, .bf16⟩
  | .hbm, ⟨1, _⟩ => ⟨S512x4096, .f32⟩
  | .hbm, ⟨2, _⟩ => ⟨S16384x512, .bf16⟩
  | .hbm, ⟨3, _⟩ => ⟨S512x4096, .bf16⟩
  | .hbm, ⟨4, _⟩ => ⟨S16384x4096, .bf16⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8x2048x512 : Shape := ⟨3, ![8, 2048, 512]⟩
abbrev S512x4096 : Shape := ⟨2, ![512, 4096]⟩
abbrev S8x2048x4096 : Shape := ⟨3, ![8, 2048, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S512x4096, .f32⟩
  | .hbm, ⟨2, _⟩ => ⟨S8x2048x512, .f32⟩
  | .hbm, ⟨3, _⟩ => ⟨S8x2048x4096, .f32⟩
  | .hbm, ⟨4, _⟩ => ⟨S16384x4096, .f32⟩
  | .hbm, ⟨5, _⟩ => ⟨S16384x4096, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.AttnTile.lean ====
/- One 256-row output tile of the attention kernel: the scores' scratch read back, and the tile's payload at an index. -/
module

public import proofs.«01_k».proof.Proof.Gen.KernelIdeal.Value
public import Idealize.ShloMosaic.Lib.Pipeline.ValueKit.Held
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

/-- A tile stored through one plane of a stacked scratch and loaded back through it is the tile. -/
theorem slot_hit {sig : RefSig} {κ : Kind} {sp : Space} {Val : EltTy → Type} [∀ e, Nonempty (Val e)] {n : ℕ} {d : Fin n → ℕ} {D : Fin (n + 1) → ℕ} {e : EltTy}
    (v : View sig κ sp ⟨n + 1, D⟩ e) (off sz : Fin (n + 1) → ℕ) (inb : ∀ a, off a + sz a ≤ (⟨n + 1, D⟩ : Shape).size a) (r : Rect ⟨n, d⟩)
    (h0 h0' : sz 0 = 1) (hs hs' : ∀ i, sz i.succ = d i) (hu hu' : ∀ a, (Rect.unit (s := ⟨n + 1, D⟩) off sz inb).stride a = 1)
    (hR : ((Rect.unit (s := ⟨n + 1, D⟩) off sz inb).within (r.consLift sz h0 hs) hu).shape.numel = r.shape.numel)
    (hL : r.toLoadRect.shape.numel = (r.toLoadRect.consLift sz h0' hs').shape.numel)
    (w : r.shape.Idx → Val e) (L : List (View.Piece Val ⟨n + 1, D⟩ e)) :
    LoadRect.valAlong hL (v.readCov (⟨(Rect.unit (s := ⟨n + 1, D⟩) off sz inb).within (r.consLift sz h0 hs) hu, Rect.payAlong hR w⟩ :: L)
      ((Rect.unit (s := ⟨n + 1, D⟩) off sz inb).withinL (r.toLoadRect.consLift sz h0' hs') hu')) = w := by
  funext x
  rw [View.readCov_eq_canon']
  refine (View.canon_cons_emb ((Rect.unit (s := ⟨n + 1, D⟩) off sz inb).within (r.consLift sz h0 hs) hu) _ L (Shape.reshapeEquiv hL x)).trans ?_
  show w (Shape.reshapeEquiv hR (Shape.reshapeEquiv hL x)) = w x
  exact congrArg w ((Shape.reshapeEquiv_reshapeEquiv (s'' := r.shape) hR hL x).trans (Shape.reshapeEquiv_self _ x))

/-- One tile of scores: 256 queries against 256 keys. -/
def sT (q : FVec Ideal S256x256 .bf16) (k : FVec Ideal S1x256x256 .bf16) : FVec Ideal S256x256 .f32 :=
  matmul dot_S256x256_S256x256_S256x256_1_1_0_0_n_n none q (shapeCast S256x256 k shapeCasts_S1x256x256_S256x256) (constant S256x256 .f32 0x00000000#32)

/-- The larger of the two halves of a tile of scores. -/
def hM (s : FVec Ideal S256x256 .f32) : FVec Ideal S256x128 .f32 :=
  maximumf (extractStridedSlice S256x128 ![0, 0] s slices_S256x256_o0_0_S256x128) (extractStridedSlice S256x128 ![0, 128] s slices_S256x256_o0_128_S256x128)

/-- The row maxima, from the tiles' folded halves. -/
def mT (z : FVec Ideal S256x128 .f32) : FVec Ideal S256x1 .f32 :=
  shapeCast S256x1 (multiReduction .maximumf [1] S256 z 0xFF800000#32 reduces_S256x128_S256 (.inl rfl) rfl) shapeCasts_S256_S256x1

/-- One tile's share of the weighted sum of values. -/
def oT (s : FVec Ideal S256x256 .f32) (mx : FVec Ideal S256x1 .f32) (v : FVec Ideal S1x256x256 .bf16) : FVec Ideal S256x256 .f32 :=
  matmul dot_S256x256_S256x256_S256x256_1_0_0_1_n_n none (truncf .bf16 (exp2 (subf (shapeCast S256x256 s shapeCasts_S256x256_S256x256) (broadcastTo S256x256 mx broadcasts_S256x1_S256x256))) bitsLt_bf16_f32)
    (shapeCast S256x256 v shapeCasts_S1x256x256_S256x256) (constant S256x256 .f32 0x00000000#32)

/-- The quotient of the weighted sum by the sum of the weights. -/
def dT (o : FVec Ideal S256x256 .f32) : FVec Ideal S256x128 .bf16 :=
  truncf .bf16 (divf (extractStridedSlice S256x128 ![0, 0] o slices_S256x256_o0_0_S256x128)
    (broadcastTo S256x128 (extractStridedSlice S256x1 ![0, 128] o slices_S256x256_o0_128_S256x1) broadcasts_S256x1_S256x128)) bitsLt_bf16_f32

/-- The folded maximum of nine tiles of scores. -/
def zT (q : FVec Ideal S256x256 .bf16) (k0 k1 k2 k3 k4 k5 k6 k7 k8 : FVec Ideal S1x256x256 .bf16) : FVec Ideal S256x128 .f32 :=
  maximumf (maximumf (maximumf (maximumf (maximumf (maximumf (maximumf (maximumf (hM (sT q k0)) (hM (sT q k1))) (hM (sT q k2))) (hM (sT q k3))) (hM (sT q k4))) (hM (sT q k5))) (hM (sT q k6))) (hM (sT q k7))) (hM (sT q k8))

/-- A whole output tile, from its queries and nine tiles of keys and values. -/
def tile (q : FVec Ideal S256x256 .bf16) (k0 k1 k2 k3 k4 k5 k6 k7 k8 v0 v1 v2 v3 v4 v5 v6 v7 v8 : FVec Ideal S1x256x256 .bf16) : FVec Ideal S256x128 .bf16 :=
  dT (addf (addf (addf (addf (addf (addf (addf (addf
    (oT (sT q k0) (mT (zT q k0 k1 k2 k3 k4 k5 k6 k7 k8)) v0)
    (oT (sT q k1) (mT (zT q k0 k1 k2 k3 k4 k5 k6 k7 k8)) v1))
    (oT (sT q k2) (mT (zT q k0 k1 k2 k3 k4 k5 k6 k7 k8)) v2))
    (oT (sT q k3) (mT (zT q k0 k1 k2 k3 k4 k5 k6 k7 k8)) v3))
    (oT (sT q k4) (mT (zT q k0 k1 k2 k3 k4 k5 k6 k7 k8)) v4))
    (oT (sT q k5) (mT (zT q k0 k1 k2 k3 k4 k5 k6 k7 k8)) v5))
    (oT (sT q k6) (mT (zT q k0 k1 k2 k3 k4 k5 k6 k7 k8)) v6))
    (oT (sT q k7) (mT (zT q k0 k1 k2 k3 k4 k5 k6 k7 k8)) v7))
    (oT (sT q k8) (mT (zT q k0 k1 k2 k3 k4 k5 k6 k7 k8)) v8))

/-- The plane `j` of the scores' scratch. -/
abbrev plane (j : ℕ) (hj : j < 2) : Rect S2x256x2304 :=
  Rect.unit ![j, 0, 0] ![1, 256, 2304] (by intro a; fin_cases a <;> simp [S2x256x2304] <;> omega)

/-- The tile of a plane that starts at column `o`. -/
abbrev col (o : ℕ) (ho : o + 256 ≤ 2304) : Rect S256x2304 :=
  Rect.unit ![0, o] ![256, 256] (by intro a; fin_cases a <;> simp [S256x2304] <;> omega)

/-- The store of one tile of scores. -/
def put (j o : ℕ) (hj : j < 2) (ho : o + 256 ≤ 2304) (s : FVec Ideal S256x256 .f32) : View.Piece (Elt Ideal) S2x256x2304 .f32 :=
  ⟨(plane j hj).within ((col o ho).consLift ![1, 256, 2304] rfl (by intro i; fin_cases i <;> rfl)) (fun _ => rfl),
    Rect.payAlong (r := col o ho) (Rect.numel_consLift (col o ho) ![1, 256, 2304] rfl (by intro i; fin_cases i <;> rfl)) (shapeCast S256x256 s shapeCasts_S256x256_S256x256)⟩

/-- The load of one tile of scores. -/
def get (j o : ℕ) (hj : j < 2) (ho : o + 256 ≤ 2304) (L : List (View.Piece (Elt Ideal) S2x256x2304 .f32)) : FVec Ideal S256x256 .f32 :=
  LoadRect.valAlong (lr := (col o ho).toLoadRect) (LoadRect.numel_consLift (col o ho).toLoadRect ![1, 256, 2304] rfl (by intro i; fin_cases i <;> rfl))
    ((View.whole cc0_scratch2).readCov L ((plane j hj).withinL ((col o ho).toLoadRect.consLift ![1, 256, 2304] rfl (by intro i; fin_cases i <;> rfl)) (fun _ => rfl)))

theorem get_hit (j o : ℕ) (hj : j < 2) (ho ho' : o + 256 ≤ 2304) (s : FVec Ideal S256x256 .f32) (L : List (View.Piece (Elt Ideal) S2x256x2304 .f32)) :
    get j o hj ho (put j o hj ho' s :: L) = shapeCast S256x256 s shapeCasts_S256x256_S256x256 :=
  by
  unfold get put
  exact slot_hit (View.whole cc0_scratch2) ![j, 0, 0] ![1, 256, 2304] _ (col o ho) _ _ _ _ _ _ _ _ _ L

theorem get_skip (j o o' : ℕ) (hj : j < 2) (ho : o + 256 ≤ 2304) (ho' : o' + 256 ≤ 2304) (s : FVec Ideal S256x256 .f32) (L : List (View.Piece (Elt Ideal) S2x256x2304 .f32))
    (h : o + 256 ≤ o') : get j o hj ho (put j o' hj ho' s :: L) = get j o hj ho L := by
  unfold get put
  refine congrArg (LoadRect.valAlong _) (View.readCov_skip (View.whole cc0_scratch2) _ _ L _ (decide_eq_true ⟨2, .inr (.inr (.inr ?_))⟩))
  show 0 + o + 1 * (256 - 1) < 0 + o'
  omega

/-- The stores of one output tile's nine tiles of scores, newest first, over whatever was stored before. -/
def puts (j : ℕ) (hj : j < 2) (s0 s1 s2 s3 s4 s5 s6 s7 s8 : FVec Ideal S256x256 .f32) (L : List (View.Piece (Elt Ideal) S2x256x2304 .f32)) : List (View.Piece (Elt Ideal) S2x256x2304 .f32) :=
  put j 2048 hj (by decide) s8 :: put j 1792 hj (by decide) s7 :: put j 1536 hj (by decide) s6 :: put j 1280 hj (by decide) s5 :: put j 1024 hj (by decide) s4 :: put j 768 hj (by decide) s3 :: put j 512 hj (by decide) s2 :: put j 256 hj (by decide) s1 :: put j 0 hj (by decide) s0 :: L

/-- One tile's share of the weighted sum, from the scores as loaded. -/
def oL (s : FVec Ideal S256x256 .f32) (mx : FVec Ideal S256x1 .f32) (v : FVec Ideal S1x256x256 .bf16) : FVec Ideal S256x256 .f32 :=
  matmul dot_S256x256_S256x256_S256x256_1_0_0_1_n_n none (truncf .bf16 (exp2 (subf s (broadcastTo S256x256 mx broadcasts_S256x1_S256x256))) bitsLt_bf16_f32)
    (shapeCast S256x256 v shapeCasts_S1x256x256_S256x256) (constant S256x256 .f32 0x00000000#32)

/-- An output tile as the body computes it, the scores stored to the scratch and loaded back. -/
def tileL (j : ℕ) (hj : j < 2) (q : FVec Ideal S256x256 .bf16) (k0 k1 k2 k3 k4 k5 k6 k7 k8 v0 v1 v2 v3 v4 v5 v6 v7 v8 : FVec Ideal S1x256x256 .bf16) (L : List (View.Piece (Elt Ideal) S2x256x2304 .f32)) : FVec Ideal S256x128 .bf16 :=
  dT (addf (addf (addf (addf (addf (addf (addf (addf ((oL (get j 0 hj (by decide) (puts j hj (sT q k0) (sT q k1) (sT q k2) (sT q k3) (sT q k4) (sT q k5) (sT q k6) (sT q k7) (sT q k8) L)) (mT (zT q k0 k1 k2 k3 k4 k5 k6 k7 k8)) v0))
    (oL (get j 256 hj (by decide) (puts j hj (sT q k0) (sT q k1) (sT q k2) (sT q k3) (sT q k4) (sT q k5) (sT q k6) (sT q k7) (sT q k8) L)) (mT (zT q k0 k1 k2 k3 k4 k5 k6 k7 k8)) v1))
    (oL (get j 512 hj (by decide) (puts j hj (sT q k0) (sT q k1) (sT q k2) (sT q k3) (sT q k4) (sT q k5) (sT q k6) (sT q k7) (sT q k8) L)) (mT (zT q k0 k1 k2 k3 k4 k5 k6 k7 k8)) v2))
    (oL (get j 768 hj (by decide) (puts j hj (sT q k0) (sT q k1) (sT q k2) (sT q k3) (sT q k4) (sT q k5) (sT q k6) (sT q k7) (sT q k8) L)) (mT (zT q k0 k1 k2 k3 k4 k5 k6 k7 k8)) v3))
    (oL (get j 1024 hj (by decide) (puts j hj (sT q k0) (sT q k1) (sT q k2) (sT q k3) (sT q k4) (sT q k5) (sT q k6) (sT q k7) (sT q k8) L)) (mT (zT q k0 k1 k2 k3 k4 k5 k6 k7 k8)) v4))
    (oL (get j 1280 hj (by decide) (puts j hj (sT q k0) (sT q k1) (sT q k2) (sT q k3) (sT q k4) (sT q k5) (sT q k6) (sT q k7) (sT q k8) L)) (mT (zT q k0 k1 k2 k3 k4 k5 k6 k7 k8)) v5))
    (oL (get j 1536 hj (by decide) (puts j hj (sT q k0) (sT q k1) (sT q k2) (sT q k3) (sT q k4) (sT q k5) (sT q k6) (sT q k7) (sT q k8) L)) (mT (zT q k0 k1 k2 k3 k4 k5 k6 k7 k8)) v6))
    (oL (get j 1792 hj (by decide) (puts j hj (sT q k0) (sT q k1) (sT q k2) (sT q k3) (sT q k4) (sT q k5) (sT q k6) (sT q k7) (sT q k8) L)) (mT (zT q k0 k1 k2 k3 k4 k5 k6 k7 k8)) v7))
    (oL (get j 2048 hj (by decide) (puts j hj (sT q k0) (sT q k1) (sT q k2) (sT q k3) (sT q k4) (sT q k5) (sT q k6) (sT q k7) (sT q k8) L)) (mT (zT q k0 k1 k2 k3 k4 k5 k6 k7 k8)) v8))

theorem tileL_eq (j : ℕ) (hj : j < 2) (q : FVec Ideal S256x256 .bf16) (k0 k1 k2 k3 k4 k5 k6 k7 k8 v0 v1 v2 v3 v4 v5 v6 v7 v8 : FVec Ideal S1x256x256 .bf16) (L : List (View.Piece (Elt Ideal) S2x256x2304 .f32)) :
    tileL j hj q k0 k1 k2 k3 k4 k5 k6 k7 k8 v0 v1 v2 v3 v4 v5 v6 v7 v8 L = tile q k0 k1 k2 k3 k4 k5 k6 k7 k8 v0 v1 v2 v3 v4 v5 v6 v7 v8 := by
  unfold tileL tile puts
  rw [get_skip j 0 2048 hj (by decide) (by decide) _ _ (by decide), get_skip j 0 1792 hj (by decide) (by decide) _ _ (by decide), get_skip j 0 1536 hj (by decide) (by decide) _ _ (by decide), get_skip j 0 1280 hj (by decide) (by decide) _ _ (by decide), get_skip j 0 1024 hj (by decide) (by decide) _ _ (by decide), get_skip j 0 768 hj (by decide) (by decide) _ _ (by decide), get_skip j 0 512 hj (by decide) (by decide) _ _ (by decide), get_skip j 0 256 hj (by decide) (by decide) _ _ (by decide), get_hit j 0 hj (by decide)]
  rw [get_skip j 256 2048 hj (by decide) (by decide) _ _ (by decide), get_skip j 256 1792 hj (by decide) (by decide) _ _ (by decide), get_skip j 256 1536 hj (by decide) (by decide) _ _ (by decide), get_skip j 256 1280 hj (by decide) (by decide) _ _ (by decide), get_skip j 256 1024 hj (by decide) (by decide) _ _ (by decide), get_skip j 256 768 hj (by decide) (by decide) _ _ (by decide), get_skip j 256 512 hj (by decide) (by decide) _ _ (by decide), get_hit j 256 hj (by decide)]
  rw [get_skip j 512 2048 hj (by decide) (by decide) _ _ (by decide), get_skip j 512 1792 hj (by decide) (by decide) _ _ (by decide), get_skip j 512 1536 hj (by decide) (by decide) _ _ (by decide), get_skip j 512 1280 hj (by decide) (by decide) _ _ (by decide), get_skip j 512 1024 hj (by decide) (by decide) _ _ (by decide), get_skip j 512 768 hj (by decide) (by decide) _ _ (by decide), get_hit j 512 hj (by decide)]
  rw [get_skip j 768 2048 hj (by decide) (by decide) _ _ (by decide), get_skip j 768 1792 hj (by decide) (by decide) _ _ (by decide), get_skip j 768 1536 hj (by decide) (by decide) _ _ (by decide), get_skip j 768 1280 hj (by decide) (by decide) _ _ (by decide), get_skip j 768 1024 hj (by decide) (by decide) _ _ (by decide), get_hit j 768 hj (by decide)]
  rw [get_skip j 1024 2048 hj (by decide) (by decide) _ _ (by decide), get_skip j 1024 1792 hj (by decide) (by decide) _ _ (by decide), get_skip j 1024 1536 hj (by decide) (by decide) _ _ (by decide), get_skip j 1024 1280 hj (by decide) (by decide) _ _ (by decide), get_hit j 1024 hj (by decide)]
  rw [get_skip j 1280 2048 hj (by decide) (by decide) _ _ (by decide), get_skip j 1280 1792 hj (by decide) (by decide) _ _ (by decide), get_skip j 1280 1536 hj (by decide) (by decide) _ _ (by decide), get_hit j 1280 hj (by decide)]
  rw [get_skip j 1536 2048 hj (by decide) (by decide) _ _ (by decide), get_skip j 1536 1792 hj (by decide) (by decide) _ _ (by decide), get_hit j 1536 hj (by decide)]
  rw [get_skip j 1792 2048 hj (by decide) (by decide) _ _ (by decide), get_hit j 1792 hj (by decide)]
  rw [get_hit j 2048 hj (by decide)]
  rfl

end Cert.Attn
-- ==== Proof.AttnRow.lean ====
/- One row of an attention output tile: the weighted mean of the value rows, the weights powers of two of the scores
   less their maximum. -/
module

public import proofs.«01_k».proof.Proof.AttnTile

@[expose] public section

set_option maxRecDepth 16384

noncomputable section

namespace Cert.Attn

open Cert.KernelIdeal Cert.KernelIdeal.Gen Idealize.ShloMosaic Idealize.ShloMosaic.TcCoe Idealize.SL.Sem

theorem sT_apply (q : FVec Ideal S256x256 .bf16) (k : FVec Ideal S1x256x256 .bf16) (i l : Fin 256) :
    sT q k (ix2 i l) = ∑ e : Fin 256, q (ix2 i e) * k (ix3 0 l e) := by
  pointwise [sT]

theorem oT_apply (s : FVec Ideal S256x256 .f32) (mx : FVec Ideal S256x1 .f32) (v : FVec Ideal S1x256x256 .bf16) (i d : Fin 256) :
    oT s mx v (ix2 i d) = ∑ l : Fin 256, Ideal.exp2 (s (ix2 i l) - mx (ix2 i 0)) * v (ix3 0 l d) := by
  pointwise [oT]
  rfl

theorem dT_apply (o : FVec Ideal S256x256 .f32) (i : Fin 256) (d : Fin 128) :
    dT o (ix2 i d) = Ideal.div (o (ix2 i ⟨d.val, by omega⟩)) (o (ix2 i 128)) := by
  pointwise [dT]

theorem hM_apply (s : FVec Ideal S256x256 .f32) (i : Fin 256) (d : Fin 128) :
    hM s (ix2 i d) = max (s (ix2 i ⟨d.val, by omega⟩)) (s (ix2 i ⟨128 + d.val, by omega⟩)) := by
  pointwise [hM]

theorem mT_apply (z : FVec Ideal S256x128 .f32) (i : Fin 256) :
    mT z (ix2 i 0) = Finset.fold max (⊥ : EReal) (fun x : Fin 128 => z (ix2 i x)) Finset.univ := by
  pointwise [mT]
  rw [show Ideal.ofBits FTy.f32 4286578688#32 = ⊥ by simp [Ideal.ofBits, Ideal.ieee]]

/-- The 256 rows of plane `j` from row `o`, of the keys or the values. -/
def rowsOf (K : FVec Ideal S2x2304x256 .bf16) (j o : ℕ) (hj : j < 2) (ho : o + 256 ≤ 2304) : FVec Ideal S1x256x256 .bf16 :=
  View.ld (Val := Elt Ideal) (e' := .bf16) K (Rect.unit ![j, o, 0] ![1, 256, 256] (by intro a; fin_cases a <;> simp [S2x2304x256] <;> omega))

theorem ld_apply (K : FVec Ideal S2x2304x256 .bf16) (j o : ℕ) (hj : j < 2) (ho : o + 256 ≤ 2304) (l e : Fin 256) :
    rowsOf K j o hj ho (ix3 0 l e) = K (ix3 ⟨j, hj⟩ ⟨o + l.val, by omega⟩ e) := by
  pointwise [rowsOf, View.ld]

/-- The maximum a nonempty fold finds bounds every entry and is one of them. -/
theorem fold_spec (f : Fin 128 → EReal) :
    (∀ x, f x ≤ Finset.fold max (⊥ : EReal) f Finset.univ) ∧ ∃ x, Finset.fold max (⊥ : EReal) f Finset.univ = f x := by
  have e : Finset.fold max (⊥ : EReal) f Finset.univ = Finset.univ.sup f := rfl
  rw [e]
  refine ⟨fun x => Finset.le_sup (Finset.mem_univ x), ?_⟩
  obtain ⟨x, -, hx⟩ := Finset.exists_mem_eq_sup Finset.univ ⟨0, Finset.mem_univ _⟩ f
  exact ⟨x, hx⟩

/-- The maximum of eighteen, as the body nests it. -/
def max18 (u : Fin 18 → EReal) : EReal :=
  max (max (max (max (max (max (max (max ((max (u 0) (u 1))) (max (u 2) (u 3))) (max (u 4) (u 5))) (max (u 6) (u 7))) (max (u 8) (u 9))) (max (u 10) (u 11))) (max (u 12) (u 13))) (max (u 14) (u 15))) (max (u 16) (u 17))

theorem le_max18 (u : Fin 18 → EReal) (c : Fin 18) : u c ≤ max18 u := by
  unfold max18
  fin_cases c <;> simp only [le_max_iff, Fin.reduceFinMk, Fin.zero_eta, Fin.mk_one, le_refl, true_or, or_true]

theorem max18_mem (u : Fin 18 → EReal) : ∃ c, max18 u = u c := by
  have h : ∀ a b : EReal, (∃ c, a = u c) → (∃ c, b = u c) → ∃ c, max a b = u c := fun a b ha hb => by
    rcases max_choice a b with e | e <;> rw [e] <;> assumption
  have z : ∀ c d : Fin 18, ∃ k, max (u c) (u d) = u k := fun c d => h _ _ ⟨c, rfl⟩ ⟨d, rfl⟩
  exact h _ _ (h _ _ (h _ _ (h _ _ (h _ _ (h _ _ (h _ _ (h _ _ (z 0 1) (z 2 3)) (z 4 5)) (z 6 7)) (z 8 9)) (z 10 11)) (z 12 13)) (z 14 15)) (z 16 17)

/-- An output tile, the tiles of keys and values given by what loads them. -/
def tileG (j : ℕ) (hj : j < 2) (q : FVec Ideal S256x256 .bf16) (K V : ∀ o, o + 256 ≤ 2304 → FVec Ideal S1x256x256 .bf16) (L : List (View.Piece (Elt Ideal) S2x256x2304 .f32)) : FVec Ideal S256x128 .bf16 :=
  tileL j hj q (K 0 (by decide)) (K 256 (by decide)) (K 512 (by decide)) (K 768 (by decide)) (K 1024 (by decide)) (K 1280 (by decide)) (K 1536 (by decide)) (K 1792 (by decide)) (K 2048 (by decide))
    (V 0 (by decide)) (V 256 (by decide)) (V 512 (by decide)) (V 768 (by decide)) (V 1024 (by decide)) (V 1280 (by decide)) (V 1536 (by decide)) (V 1792 (by decide)) (V 2048 (by decide)) L

/-- Loads from an array that holds the whole scratch. -/
def rows (K : FVec Ideal S2x2304x256 .bf16) (j : ℕ) (hj : j < 2) : ∀ o, o + 256 ≤ 2304 → FVec Ideal S1x256x256 .bf16 :=
  fun o ho => rowsOf K j o hj ho

/-- Loads from the first scratch after the stores `L`. -/
def cov0 (L : List (View.Piece (Elt Ideal) S2x2304x256 .bf16)) (j : ℕ) (hj : j < 2) : ∀ o, o + 256 ≤ 2304 → FVec Ideal S1x256x256 .bf16 :=
  fun o ho => View.readCov (Val := Elt Ideal) (s := S2x2304x256) (e := .bf16) (View.whole cc0_scratch0) L (Rect.unit (s := S2x2304x256) ![j, o, 0] ![1, 256, 256] (by intro a; fin_cases a <;> simp [S2x2304x256] <;> omega)).toLoadRect

/-- Loads from the second scratch after the stores `L`. -/
def cov1 (L : List (View.Piece (Elt Ideal) S2x2304x256 .bf16)) (j : ℕ) (hj : j < 2) : ∀ o, o + 256 ≤ 2304 → FVec Ideal S1x256x256 .bf16 :=
  fun o ho => View.readCov (Val := Elt Ideal) (s := S2x2304x256) (e := .bf16) (View.whole cc0_scratch1) L (Rect.unit (s := S2x2304x256) ![j, o, 0] ![1, 256, 256] (by intro a; fin_cases a <;> simp [S2x2304x256] <;> omega)).toLoadRect

theorem cov0_eq (L : List (View.Piece (Elt Ideal) S2x2304x256 .bf16)) (j : ℕ) (hj : j < 2) : cov0 L j hj = rows (View.canon L) j hj := by
  funext o ho
  unfold cov0
  exact View.readCov_eq_canon' (Val := Elt Ideal) (s := S2x2304x256) (e := .bf16) (View.whole cc0_scratch0) L _

theorem cov1_eq (L : List (View.Piece (Elt Ideal) S2x2304x256 .bf16)) (j : ℕ) (hj : j < 2) : cov1 L j hj = rows (View.canon L) j hj := by
  funext o ho
  unfold cov1
  exact View.readCov_eq_canon' (Val := Elt Ideal) (s := S2x2304x256) (e := .bf16) (View.whole cc0_scratch1) L _

/-- An output tile from the whole arrays of keys and values. -/
def tileKV (j : ℕ) (hj : j < 2) (q : FVec Ideal S256x256 .bf16) (K V : FVec Ideal S2x2304x256 .bf16) : FVec Ideal S256x128 .bf16 :=
  tileG j hj q (rows K j hj) (rows V j hj) []

theorem tileG_eq (p j : ℕ) (hp : p < 2) (hj : j < 2) (q : FVec Ideal S256x256 .bf16) (K V : FVec Ideal S2x2304x256 .bf16) (L : List (View.Piece (Elt Ideal) S2x256x2304 .f32)) :
    tileG p hp q (rows K j hj) (rows V j hj) L = tileKV j hj q K V := by
  unfold tileKV tileG
  rw [tileL_eq, tileL_eq]

/-- The score of one query row against one key. -/
def sc (j : Fin 2) (q : FVec Ideal S256x256 .bf16) (K : FVec Ideal S2x2304x256 .bf16) (i : Fin 256) (n : Fin 2304) : EReal :=
  ∑ e : Fin 256, q (ix2 i e) * K (ix3 j n e)

theorem sT_sc (j o : ℕ) (hj : j < 2) (ho : o + 256 ≤ 2304) (q : FVec Ideal S256x256 .bf16) (K : FVec Ideal S2x2304x256 .bf16) (i l : Fin 256) :
    sT q (rowsOf K j o hj ho) (ix2 i l) = sc ⟨j, hj⟩ q K i ⟨o + l.val, by omega⟩ := by
  rw [sT_apply, sc]
  exact Finset.sum_congr rfl fun e _ => by rw [ld_apply K j o hj ho]

theorem zT_sc (j : ℕ) (hj : j < 2) (q : FVec Ideal S256x256 .bf16) (K : FVec Ideal S2x2304x256 .bf16) (i : Fin 256) (x : Fin 128) :
    zT q (rowsOf K j 0 hj (by decide)) (rowsOf K j 256 hj (by decide)) (rowsOf K j 512 hj (by decide)) (rowsOf K j 768 hj (by decide)) (rowsOf K j 1024 hj (by decide)) (rowsOf K j 1280 hj (by decide)) (rowsOf K j 1536 hj (by decide)) (rowsOf K j 1792 hj (by decide)) (rowsOf K j 2048 hj (by decide)) (ix2 i x)
      = max18 (fun c => sc ⟨j, hj⟩ q K i ⟨128 * c.val + x.val, by omega⟩) := by
  have e : ∀ a b : FVec Ideal S256x128 .f32, maximumf a b (ix2 i x) = max (a (ix2 i x)) (b (ix2 i x)) := fun _ _ => rfl
  have g : ∀ a b : ℕ, a = b → ∀ (h : a < 2304) (h' : b < 2304), sc ⟨j, hj⟩ q K i ⟨a, h⟩ = sc ⟨j, hj⟩ q K i ⟨b, h'⟩ := fun a b h _ _ => by subst h; rfl
  unfold zT max18
  simp only [e, hM_apply, sT_sc]
  repeat' (first | exact g _ _ (by simp <;> omega) _ _ | refine congrArg₂ max ?_ ?_)

/-- A sum over the keys, tile by tile. -/
theorem sum_tiles (f : Fin 2304 → EReal) :
    (∑ l : Fin 256, f ⟨0 + l.val, by omega⟩) + (∑ l : Fin 256, f ⟨256 + l.val, by omega⟩) + (∑ l : Fin 256, f ⟨512 + l.val, by omega⟩) + (∑ l : Fin 256, f ⟨768 + l.val, by omega⟩) + (∑ l : Fin 256, f ⟨1024 + l.val, by omega⟩) + (∑ l : Fin 256, f ⟨1280 + l.val, by omega⟩) + (∑ l : Fin 256, f ⟨1536 + l.val, by omega⟩) + (∑ l : Fin 256, f ⟨1792 + l.val, by omega⟩) + (∑ l : Fin 256, f ⟨2048 + l.val, by omega⟩) = ∑ n, f n := by
  refine Eq.trans ?_ (Fin.sum_mul_add_congr (S := 9) (n := 256) (F := fun t l => f ⟨256 * t.val + l.val, by omega⟩) (f := f)
    fun t l hl => congrArg f (Fin.ext (by simp only; omega)))
  simp only [Fin.sum_univ_castSucc (n := 8), Fin.sum_univ_castSucc (n := 7), Fin.sum_univ_castSucc (n := 6), Fin.sum_univ_castSucc (n := 5), Fin.sum_univ_castSucc (n := 4), Fin.sum_univ_castSucc (n := 3), Fin.sum_univ_castSucc (n := 2), Fin.sum_univ_castSucc (n := 1), Fin.sum_univ_castSucc (n := 0), Fin.sum_univ_zero, zero_add]
  rfl

theorem tileKV_row (j : ℕ) (hj : j < 2) (q : FVec Ideal S256x256 .bf16) (K V : FVec Ideal S2x2304x256 .bf16)
    (i : Fin 256) (d : Fin 128) (h1 : ∀ n, V (ix3 ⟨j, hj⟩ n 128) = (1 : EReal)) :
    ∃ M : EReal, (∀ n, sc ⟨j, hj⟩ q K i n ≤ M) ∧ (∃ n, M = sc ⟨j, hj⟩ q K i n) ∧ tileKV j hj q K V (ix2 i d)
      = Ideal.div (∑ n, Ideal.exp2 (sc ⟨j, hj⟩ q K i n - M) * V (ix3 ⟨j, hj⟩ n ⟨d.val, by omega⟩)) (∑ n, Ideal.exp2 (sc ⟨j, hj⟩ q K i n - M)) := by
  refine ⟨mT (zT q (rowsOf K j 0 hj (by decide)) (rowsOf K j 256 hj (by decide)) (rowsOf K j 512 hj (by decide)) (rowsOf K j 768 hj (by decide)) (rowsOf K j 1024 hj (by decide)) (rowsOf K j 1280 hj (by decide)) (rowsOf K j 1536 hj (by decide)) (rowsOf K j 1792 hj (by decide)) (rowsOf K j 2048 hj (by decide))) (ix2 i 0), fun n => ?_, ?_, ?_⟩
  · rw [mT_apply]
    refine le_trans ?_ ((fold_spec _).1 ⟨n.val % 128, by omega⟩)
    rw [zT_sc]
    refine le_trans (le_of_eq ?_) (le_max18 _ ⟨n.val / 128, by omega⟩)
    exact congrArg _ (Fin.ext (by simp only; omega))
  · rw [mT_apply]
    obtain ⟨x, hx⟩ := (fold_spec fun x => zT q (rowsOf K j 0 hj (by decide)) (rowsOf K j 256 hj (by decide)) (rowsOf K j 512 hj (by decide)) (rowsOf K j 768 hj (by decide)) (rowsOf K j 1024 hj (by decide)) (rowsOf K j 1280 hj (by decide)) (rowsOf K j 1536 hj (by decide)) (rowsOf K j 1792 hj (by decide)) (rowsOf K j 2048 hj (by decide)) (ix2 i x)).2
    rw [hx, zT_sc]
    obtain ⟨c, hc⟩ := max18_mem (fun c => sc ⟨j, hj⟩ q K i ⟨128 * c.val + x.val, by omega⟩)
    exact ⟨_, hc⟩
  · unfold tileKV tileG
    rw [tileL_eq]
    unfold rows
    unfold tile
    generalize mT (zT q (rowsOf K j 0 hj (by decide)) (rowsOf K j 256 hj (by decide)) (rowsOf K j 512 hj (by decide)) (rowsOf K j 768 hj (by decide)) (rowsOf K j 1024 hj (by decide)) (rowsOf K j 1280 hj (by decide)) (rowsOf K j 1536 hj (by decide)) (rowsOf K j 1792 hj (by decide)) (rowsOf K j 2048 hj (by decide))) = mx
    have e : ∀ a b : FVec Ideal S256x256 .f32, ∀ k, addf a b (ix2 i k) = a (ix2 i k) + b (ix2 i k) := fun _ _ _ => rfl
    rw [dT_apply]
    simp only [e, oT_apply, sT_sc, ld_apply V j _ hj]
    rw [← sum_tiles, ← sum_tiles]
    simp only [h1, mul_one, Nat.zero_add]

end Cert.Attn
-- ==== Proof.AttnBase.lean ====
/- What the attention kernel's body leaves at each grid point: the output tiles from the keys and values then in scratch, and the two cast weights. -/
module

public import proofs.«01_k».proof.Proof.AttnRow

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-- The scaled queries of the tile whose first row is `o` and first column `p`. -/
def qt (c : Dev nD) (t : Fin cfg0.N) (o p : ℕ) (ho : o + 256 ≤ 2048) (hp : p + 128 ≤ 256) : FVec Ideal S256x256 .bf16 :=
  k0_pay16 (View.ld (iblk m c 0 t) (Rect.unit (s := S2048x256) ![o, p] ![256, 128] (by intro a; fin_cases a <;> simp [S2048x256] <;> omega)))
    (View.ld (iblk m c 1 t) (Rect.unit (s := S2048x256) ![o, p] ![256, 128] (by intro a; fin_cases a <;> simp [S2048x256] <;> omega)))

theorem tile_close (c : Dev nD) (t : Fin cfg0.N) (K V : FVec Ideal S2x2304x256 .bf16) (j j' o o' p p' : ℕ) (hj : j < 2) (hj' : j' < 2)
    (ho : o + 256 ≤ 2048) (ho' : o' + 256 ≤ 2048) (hp : p + 128 ≤ 256) (hp' : p' + 128 ≤ 256) (x x' : S256x128.Idx)
    (e1 : j = j') (e2 : o = o') (e3 : p = p') (e4 : (x 0).val = (x' 0).val) (e5 : (x 1).val = (x' 1).val) :
    tileKV j hj (qt m c t o p ho hp) K V x = tileKV j' hj' (qt m c t o' p' ho' hp') K V x' := by
  subst e1 e2 e3
  refine congrArg _ (funext fun a => ?_)
  fin_cases a
  · exact Fin.ext e4
  · exact Fin.ext e5

end Cert.Attn
-- ==== Proof.AttnOutA.lean ====
/- What the attention kernel's body leaves at each grid point: the output tiles from the keys and values then in scratch, and the two cast weights. -/
module

public import proofs.«01_k».proof.Proof.AttnBase

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
theorem out_tile_A (c : Dev nD) (t : Fin cfg0.N) (g0 : t.val % 64 = 0) (g1 : t.val % 8 = 0) (r : Fin 8) (j : Fin 2) (i : Fin 256) (d : Fin 128) (y : S2048x256.Idx)
    (hy0 : (y 0).val = 256 * r.val + i.val) (hy1 : (y 1).val = 128 * j.val + d.val) :
    (outsAt0 m c t.val t.isLt).1 y = tileKV j.val j.isLt (qt m c t (256 * r.val) (128 * j.val) (by omega) (by omega))
      (outsAt0 m c t.val t.isLt).2.2.2.1 (outsAt0 m c t.val t.isLt).2.2.2.2 (ix2 i d) := by
  have hi := i.isLt; have hd := d.isLt; have hr := r.isLt; have hj := j.isLt
  have e0 : ((ix2 i d : S256x128.Idx) 0).val = i.val := rfl
  have e1 : ((ix2 i d : S256x128.Idx) 1).val = d.val := rfl
  generalize (ix2 i d : S256x128.Idx) = z at e0 e1 ⊢
  generalize hK : (outsAt0 m c t.val t.isLt).2.2.2.1 = K
  generalize hV : (outsAt0 m c t.val t.isLt).2.2.2.2 = V
  rw [outsAt0_A m c t g0 g1] at hK hV ⊢
  frame_out at hK hV ⊢

  rw [(hs0_0 t).read_unread, (hs0_1 t).read_unread]
  canon_tiles x h
  all_goals
    refine Eq.trans (b := tileG _ (by decide) (qt m c t _ _ (by decide) (by decide)) (cov0 _ _ (by decide)) (cov1 _ _ (by decide)) _ x) rfl ?_
    rw [cov0_eq, cov1_eq, hK, hV, tileG_eq]
    have hx0 : (x 0).val < 256 := (x 0).isLt
    have hx1 : (x 1).val < 128 := (x 1).isLt
    exact tile_close m c t K V _ _ _ _ _ _ _ _ _ _ _ _ _ _ (by omega) (by omega) (by omega) (by omega) (by omega)

end Cert.Attn
-- ==== Proof.AttnOutB.lean ====
/- What the attention kernel's body leaves at each grid point: the output tiles from the keys and values then in scratch, and the two cast weights. -/
module

public import proofs.«01_k».proof.Proof.AttnBase

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
theorem out_tile_B (c : Dev nD) (t : Fin cfg0.N) (g0 : ¬t.val % 64 = 0) (g1 : ¬t.val % 8 = 0) (r : Fin 8) (j : Fin 2) (i : Fin 256) (d : Fin 128) (y : S2048x256.Idx)
    (hy0 : (y 0).val = 256 * r.val + i.val) (hy1 : (y 1).val = 128 * j.val + d.val) :
    (outsAt0 m c t.val t.isLt).1 y = tileKV j.val j.isLt (qt m c t (256 * r.val) (128 * j.val) (by omega) (by omega))
      (outsAt0 m c t.val t.isLt).2.2.2.1 (outsAt0 m c t.val t.isLt).2.2.2.2 (ix2 i d) := by
  have hi := i.isLt; have hd := d.isLt; have hr := r.isLt; have hj := j.isLt
  have e0 : ((ix2 i d : S256x128.Idx) 0).val = i.val := rfl
  have e1 : ((ix2 i d : S256x128.Idx) 1).val = d.val := rfl
  generalize (ix2 i d : S256x128.Idx) = z at e0 e1 ⊢
  generalize hK : (outsAt0 m c t.val t.isLt).2.2.2.1 = K
  generalize hV : (outsAt0 m c t.val t.isLt).2.2.2.2 = V
  rw [outsAt0_B m c t g0 g1] at hK hV ⊢
  frame_out at hK hV ⊢
  simp only [hK, hV]
  rw [(hs0_0 t).read_unread, (hs0_1 t).read_unread]
  canon_tiles x h
  all_goals
    refine Eq.trans (b := tileG _ (by decide) (qt m c t _ _ (by decide) (by decide)) (rows K _ (by decide)) (rows V _ (by decide)) _ x) rfl ?_
    rw [tileG_eq]
    have hx0 : (x 0).val < 256 := (x 0).isLt
    have hx1 : (x 1).val < 128 := (x 1).isLt
    exact tile_close m c t K V _ _ _ _ _ _ _ _ _ _ _ _ _ _ (by omega) (by omega) (by omega) (by omega) (by omega)

end Cert.Attn
-- ==== Proof.AttnOutC.lean ====
/- What the attention kernel's body leaves at each grid point: the output tiles from the keys and values then in scratch, and the two cast weights. -/
module

public import proofs.«01_k».proof.Proof.AttnBase

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
theorem out_tile_C (c : Dev nD) (t : Fin cfg0.N) (g0 : ¬t.val % 64 = 0) (g1 : t.val % 8 = 0) (r : Fin 8) (j : Fin 2) (i : Fin 256) (d : Fin 128) (y : S2048x256.Idx)
    (hy0 : (y 0).val = 256 * r.val + i.val) (hy1 : (y 1).val = 128 * j.val + d.val) :
    (outsAt0 m c t.val t.isLt).1 y = tileKV j.val j.isLt (qt m c t (256 * r.val) (128 * j.val) (by omega) (by omega))
      (outsAt0 m c t.val t.isLt).2.2.2.1 (outsAt0 m c t.val t.isLt).2.2.2.2 (ix2 i d) := by
  have hi := i.isLt; have hd := d.isLt; have hr := r.isLt; have hj := j.isLt
  have e0 : ((ix2 i d : S256x128.Idx) 0).val = i.val := rfl
  have e1 : ((ix2 i d : S256x128.Idx) 1).val = d.val := rfl
  generalize (ix2 i d : S256x128.Idx) = z at e0 e1 ⊢
  generalize hK : (outsAt0 m c t.val t.isLt).2.2.2.1 = K
  generalize hV : (outsAt0 m c t.val t.isLt).2.2.2.2 = V
  rw [outsAt0_C m c t g0 g1] at hK hV ⊢
  frame_out at hK hV ⊢
  simp only [hV]
  rw [(hs0_0 t).read_unread, (hs0_1 t).read_unread]
  canon_tiles x h
  all_goals
    refine Eq.trans (b := tileG _ (by decide) (qt m c t _ _ (by decide) (by decide)) (cov0 _ _ (by decide)) (rows V _ (by decide)) _ x) rfl ?_
    rw [cov0_eq, hK, tileG_eq]
    have hx0 : (x 0).val < 256 := (x 0).isLt
    have hx1 : (x 1).val < 128 := (x 1).isLt
    exact tile_close m c t K V _ _ _ _ _ _ _ _ _ _ _ _ _ _ (by omega) (by omega) (by omega) (by omega) (by omega)

end Cert.Attn
-- ==== Proof.AttnModel.lean ====
/- The softmax attention: where the kernel's blocks lie, and what both programs compute. -/
module

public import proofs.«01_k».proof.Proof.AttnBase

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-! ## Where a point's blocks lie -/

theorem idx0 : ∀ t : Fin cfg0.N, win0_0.index t = ![t.val / 8, t.val % 8] := (by decide +kernel : ∀ t : Fin grid0.N, _)
theorem idx1 : ∀ t : Fin cfg0.N, win0_1.index t = ![t.val / 8, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, 0] := (by decide +kernel : ∀ t : Fin grid0.N, _)
theorem idx4 : ∀ t : Fin cfg0.N, win0_4.index t = ![t.val / 8, t.val % 8] := (by decide +kernel : ∀ t : Fin grid0.N, _)
theorem idx5 : ∀ t : Fin cfg0.N, win0_5.index t = ![t.val / 8, 0] := (by decide +kernel : ∀ t : Fin grid0.N, _)
theorem idx6 : ∀ t : Fin cfg0.N, win0_6.index t = ![1, t.val, 0] := (by decide +kernel : ∀ t : Fin grid0.N, _)
theorem idx7 : ∀ t : Fin cfg0.N, win0_7.index t = ![1, t.val, 0] := (by decide +kernel : ∀ t : Fin grid0.N, _)
theorem idx8 : ∀ t : Fin cfg0.N, win0_8.index t = ![t.val / 8, t.val % 8] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

/-! ## The arguments -/

abbrev arg0 (c : Dev nD) : S8x2048x3072.Idx → EReal := m ((c : Thread nD τ).loc main_arg0)
abbrev arg1 (c : Dev nD) : S8x2048x4096.Idx → EReal := m ((c : Thread nD τ).loc main_arg1)
abbrev arg2 (c : Dev nD) : S8x2048x64.Idx → EReal := m ((c : Thread nD τ).loc main_arg2)
abbrev arg3 (c : Dev nD) : S8x256x4096.Idx → EReal := m ((c : Thread nD τ).loc main_arg3)
abbrev arg4 (c : Dev nD) : S8x256x64.Idx → EReal := m ((c : Thread nD τ).loc main_arg4)
abbrev arg5 (c : Dev nD) : S2x2048x8192.Idx → EReal := m ((c : Thread nD τ).loc main_arg5)
abbrev arg6 (c : Dev nD) : S2x8192x2048.Idx → EReal := m ((c : Thread nD τ).loc main_arg6)

/-! ## What the two programs compute, at head `h` of batch `b` -/

/-- Feature `e` of query `s`. -/
def Q (c : Dev nD) (b : Fin 8) (h : Fin 16) (s : Fin 2048) (e : Fin 192) : EReal :=
  arg0 m c (ix3 b s (⟨192 * h.val + e.val, by omega⟩ : Fin 3072))

/-- Feature `e` of the 256 that hold the key and the value of position `n`: the first 2048 positions, then the context's. -/
def KV (c : Dev nD) (b : Fin 8) (h : Fin 16) (n : Fin 2304) (e : Fin 256) : EReal :=
  if hn : n.val < 2048 then arg1 m c (ix3 b (⟨n.val, hn⟩ : Fin 2048) (⟨256 * h.val + e.val, by omega⟩ : Fin 4096))
  else arg3 m c (ix3 b (⟨n.val - 2048, by omega⟩ : Fin 256) (⟨256 * h.val + e.val, by omega⟩ : Fin 4096))

/-- Feature `e` of the key part that all heads share. -/
def PE (c : Dev nD) (b : Fin 8) (n : Fin 2304) (e : Fin 64) : EReal :=
  if hn : n.val < 2048 then arg2 m c (ix3 b (⟨n.val, hn⟩ : Fin 2048) e)
  else arg4 m c (ix3 b (⟨n.val - 2048, by omega⟩ : Fin 256) e)

/-- Feature `e` of key `n`. -/
def Kf (c : Dev nD) (b : Fin 8) (h : Fin 16) (n : Fin 2304) (e : Fin 192) : EReal :=
  if he : e.val < 128 then KV m c b h n (⟨e.val, by omega⟩ : Fin 256) else PE m c b n (⟨e.val - 128, by omega⟩ : Fin 64)

/-- Feature `d` of value `n`. -/
def Vf (c : Dev nD) (b : Fin 8) (h : Fin 16) (n : Fin 2304) (d : Fin 128) : EReal := KV m c b h n (⟨128 + d.val, by omega⟩ : Fin 256)

/-- The score of key `n` for query `s`, not scaled. -/
def Raw (c : Dev nD) (b : Fin 8) (h : Fin 16) (s : Fin 2048) (n : Fin 2304) : EReal :=
  ∑ e : Fin 192, Q m c b h s e * Kf m c b h n e

/-! ## A point's blocks, as entries of the arguments -/

/-- The queries' first 128 features. -/
theorem blk0 (c : Dev nD) (t : Fin cfg0.N) (y : S2048x256.Idx) (b : Fin 8) (h : Fin 16) (s : Fin 2048) (e : Fin 192)
    (hb : b.val = t.val / 8) (hs : s.val = (y 0).val) (hh : h.val = 2 * (t.val % 8) + (y 1).val / 128) (he : e.val = (y 1).val % 128) :
    iblk m c 0 t y = Q m c b h s e := by
  have hN : t.val < 64 := lt_of_lt_of_eq t.isLt N_0
  have h1 : (y 1).val < 256 := (y 1).isLt
  rw [← ix2_eta y]
  unfold Q
  blk_point [iblk, V, idx0 t]

/-- The keys' and values' features at the first 2048 positions. -/
theorem blk2 (c : Dev nD) (t : Fin cfg0.N) (y : S2048x512.Idx) (b : Fin 8) (n : Fin 2048) (k : Fin 4096)
    (hb : b.val = t.val / 8) (hn : n.val = (y 0).val) (hk : k.val = 512 * (t.val % 8) + (y 1).val) :
    iblk m c 2 t y = arg1 m c (ix3 b n k) := by
  have hN : t.val < 64 := lt_of_lt_of_eq t.isLt N_0
  have h1 : (y 1).val < 512 := (y 1).isLt
  rw [← ix2_eta y]
  blk_point [iblk, V, idx2 t]

/-- And at the context's positions. -/
theorem blk4 (c : Dev nD) (t : Fin cfg0.N) (y : S256x512.Idx) (b : Fin 8) (n : Fin 256) (k : Fin 4096)
    (hb : b.val = t.val / 8) (hn : n.val = (y 0).val) (hk : k.val = 512 * (t.val % 8) + (y 1).val) :
    iblk m c 4 t y = arg3 m c (ix3 b n k) := by
  have hN : t.val < 64 := lt_of_lt_of_eq t.isLt N_0
  have h1 : (y 1).val < 512 := (y 1).isLt
  rw [← ix2_eta y]
  blk_point [iblk, V, idx4 t]

end Cert.Attn
-- ==== Proof.AttnWts.lean ====
/- The attention kernel's other two outputs: its share of the two weights, cast. -/
module

public import proofs.«01_k».proof.Proof.AttnModel

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

theorem w1_A (c : Dev nD) (t : Fin cfg0.N) (g0 : t.val % 64 = 0) (g1 : t.val % 8 = 0) (y : S32x8192.Idx) :
    (outsAt0 m c t.val t.isLt).2.1 y = iblk m c 6 t (ix3 (0 : Fin 1) (y 0) (y 1)) := by
  rw [outsAt0_A m c t g0 g1]
  frame_out
  canon_tiles x h
  all_goals
    pointwise [k0_pay44, k0_pay494, k0_pay527, k0_pay74]
    blk_ext

theorem w1_B (c : Dev nD) (t : Fin cfg0.N) (g0 : ¬t.val % 64 = 0) (g1 : ¬t.val % 8 = 0) (y : S32x8192.Idx) :
    (outsAt0 m c t.val t.isLt).2.1 y = iblk m c 6 t (ix3 (0 : Fin 1) (y 0) (y 1)) := by
  rw [outsAt0_B m c t g0 g1]
  frame_out
  canon_tiles x h
  all_goals
    pointwise [k0_pay44, k0_pay494, k0_pay527, k0_pay74]
    blk_ext

theorem w1_C (c : Dev nD) (t : Fin cfg0.N) (g0 : ¬t.val % 64 = 0) (g1 : t.val % 8 = 0) (y : S32x8192.Idx) :
    (outsAt0 m c t.val t.isLt).2.1 y = iblk m c 6 t (ix3 (0 : Fin 1) (y 0) (y 1)) := by
  rw [outsAt0_C m c t g0 g1]
  frame_out
  canon_tiles x h
  all_goals
    pointwise [k0_pay44, k0_pay494, k0_pay527, k0_pay74]
    blk_ext

/-- At every point the first weight's block is its argument's. -/
theorem w1_all (c : Dev nD) (t : Fin cfg0.N) (y : S32x8192.Idx) :
    (outsAt0 m c t.val t.isLt).2.1 y = iblk m c 6 t (ix3 (0 : Fin 1) (y 0) (y 1)) := by
  by_cases g1 : t.val % 8 = 0
  · by_cases g0 : t.val % 64 = 0
    · exact w1_A m c t g0 g1 y
    · exact w1_C m c t g0 g1 y
  · exact w1_B m c t (by omega) g1 y

theorem w2_A (c : Dev nD) (t : Fin cfg0.N) (g0 : t.val % 64 = 0) (g1 : t.val % 8 = 0) (y : S128x2048.Idx) :
    (outsAt0 m c t.val t.isLt).2.2.1 y = iblk m c 7 t (ix3 (0 : Fin 1) (y 0) (y 1)) := by
  rw [outsAt0_A m c t g0 g1]
  frame_out
  canon_tiles x h
  all_goals
    pointwise [k0_pay1, k0_pay336, k0_pay367, k0_pay397, k0_pay431, k0_pay45, k0_pay462, k0_pay495, k0_pay75]
    blk_ext

theorem w2_B (c : Dev nD) (t : Fin cfg0.N) (g0 : ¬t.val % 64 = 0) (g1 : ¬t.val % 8 = 0) (y : S128x2048.Idx) :
    (outsAt0 m c t.val t.isLt).2.2.1 y = iblk m c 7 t (ix3 (0 : Fin 1) (y 0) (y 1)) := by
  rw [outsAt0_B m c t g0 g1]
  frame_out
  canon_tiles x h
  all_goals
    pointwise [k0_pay1, k0_pay336, k0_pay367, k0_pay397, k0_pay431, k0_pay45, k0_pay462, k0_pay495, k0_pay75]
    blk_ext

theorem w2_C (c : Dev nD) (t : Fin cfg0.N) (g0 : ¬t.val % 64 = 0) (g1 : t.val % 8 = 0) (y : S128x2048.Idx) :
    (outsAt0 m c t.val t.isLt).2.2.1 y = iblk m c 7 t (ix3 (0 : Fin 1) (y 0) (y 1)) := by
  rw [outsAt0_C m c t g0 g1]
  frame_out
  canon_tiles x h
  all_goals
    pointwise [k0_pay1, k0_pay336, k0_pay367, k0_pay397, k0_pay431, k0_pay45, k0_pay462, k0_pay495, k0_pay75]
    blk_ext

/-- At every point the second weight's block is its argument's. -/
theorem w2_all (c : Dev nD) (t : Fin cfg0.N) (y : S128x2048.Idx) :
    (outsAt0 m c t.val t.isLt).2.2.1 y = iblk m c 7 t (ix3 (0 : Fin 1) (y 0) (y 1)) := by
  by_cases g1 : t.val % 8 = 0
  · by_cases g0 : t.val % 64 = 0
    · exact w2_A m c t g0 g1 y
    · exact w2_C m c t g0 g1 y
  · exact w2_B m c t (by omega) g1 y

/-- The first weight of the second layer. -/
def G9 (c : Dev nD) : S2048x8192.Idx → EReal := fun i => arg5 m c (ix3 (1 : Fin 2) (i 0) (i 1))

theorem final9 (c : Dev nD) : (dats m 0 c).arrAt 9 cfg0.N = G9 m c := by
  refine (dats m 0 c).arrAt_eq_of_covers 9 _ (by decide +kernel) fun t hf y => ?_
  blk_simp
  rw [after0_9]
  refine (w1_all m c t y).trans ?_
  unfold G9
  blk_point [iblk, V, idx6 t, idx9 t]

/-- The second weight of the second layer. -/
def G10 (c : Dev nD) : S8192x2048.Idx → EReal := fun i => arg6 m c (ix3 (1 : Fin 2) (i 0) (i 1))

theorem final10 (c : Dev nD) : (dats m 0 c).arrAt 10 cfg0.N = G10 m c := by
  refine (dats m 0 c).arrAt_eq_of_covers 10 _ (by decide +kernel) fun t hf y => ?_
  blk_simp
  rw [after0_10]
  refine (w2_all m c t y).trans ?_
  unfold G10
  blk_point [iblk, V, idx7 t, idx10 t]

end Cert.Attn
-- ==== Proof.AttnPad.lean ====
/- The softmax attention: the blocks the host fills up with zeros. -/
module

public import proofs.«01_k».proof.Proof.AttnModel

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-- The three arrays that are filled up to 128 columns a head. -/
theorem V5 (c : Dev nD) : (V m c main_v5 : S16384x2048.Idx → EReal) = shapeCast S16384x2048
    (pad S16384x16x128 ![0, 0, 0] ![0, 0, 64] ![0, 0, 0]
      (extractStridedSlice S16384x16x64 ![0, 0, 128] (shapeCast S16384x16x192 (arg0 m c) shapeCasts_S8x2048x3072_S16384x16x192) slices_S16384x16x192_S16384x16x64_0_0_128)
      (constant (F := Ideal) S_ .bf16 0x0000#16) pads_S16384x16x64_S16384x16x128_000_000_0640 h_S_) shapeCasts_S16384x16x128_S16384x2048 := by
  unfold V; after_results_simp <;> rfl

theorem V8 (c : Dev nD) : (V m c main_v8 : S16384x128.Idx → EReal) = shapeCast S16384x128
    (pad S8x2048x128 ![0, 0, 0] ![0, 0, 64] ![0, 0, 0] (arg2 m c) (constant (F := Ideal) S_ .bf16 0x0000#16)
      pads_S8x2048x64_S8x2048x128_000_000_0640 h_S_) shapeCasts_S8x2048x128_S16384x128 := by
  unfold V; after_results_simp <;> rfl

theorem V11 (c : Dev nD) : (V m c main_v11 : S2048x128.Idx → EReal) = shapeCast S2048x128
    (pad S8x256x128 ![0, 0, 0] ![0, 0, 64] ![0, 0, 0] (arg4 m c) (constant (F := Ideal) S_ .bf16 0x0000#16)
      pads_S8x256x64_S8x256x128_000_000_0640 h_S_) shapeCasts_S8x256x128_S2048x128 := by
  unfold V; after_results_simp <;> rfl

/-- The shared key part of position `n` of batch `b`, then zeros. -/
theorem read8 (c : Dev nD) (y : S16384x128.Idx) (b : Fin 8) (n : Fin 2048) (hn : (y 0).val = 2048 * b.val + n.val) :
    (V m c main_v8 : S16384x128.Idx → EReal) y = if he : (y 1).val < 64 then arg2 m c (ix3 b n (⟨(y 1).val, he⟩ : Fin 64)) else 0 := by
  rw [V8, ← ix2_eta y]
  pointwise
  have hy0 : (y 0).val < 16384 := (y 0).isLt
  have hy1 : (y 1).val < 128 := (y 1).isLt
  by_cases he : (y 1).val < 64
  · rw [dif_pos (by omega), dif_pos he]
    blk_ext
  · rw [dif_neg (by omega), dif_neg he]

theorem read11 (c : Dev nD) (y : S2048x128.Idx) (b : Fin 8) (n : Fin 256) (hn : (y 0).val = 256 * b.val + n.val) :
    (V m c main_v11 : S2048x128.Idx → EReal) y = if he : (y 1).val < 64 then arg4 m c (ix3 b n (⟨(y 1).val, he⟩ : Fin 64)) else 0 := by
  rw [V11, ← ix2_eta y]
  pointwise
  have hy0 : (y 0).val < 2048 := (y 0).isLt
  have hy1 : (y 1).val < 128 := (y 1).isLt
  by_cases he : (y 1).val < 64
  · rw [dif_pos (by omega), dif_pos he]
    blk_ext
  · rw [dif_neg (by omega), dif_neg he]

theorem read5 (c : Dev nD) (y : S16384x2048.Idx) (b : Fin 8) (h : Fin 16) (s : Fin 2048) (hs : (y 0).val = 2048 * b.val + s.val)
    (hh : h.val = (y 1).val / 128) :
    (V m c main_v5 : S16384x2048.Idx → EReal) y = if he : (y 1).val % 128 < 64 then Q m c b h s (⟨128 + (y 1).val % 128, by omega⟩ : Fin 192) else 0 := by
  rw [V5, ← ix2_eta y]
  pointwise [Q]
  have hy0 : (y 0).val < 16384 := (y 0).isLt
  have hy1 : (y 1).val < 2048 := (y 1).isLt
  split_ifs with hc he he
  · refine congrArg (arg0 m c) (funext fun a => Fin.ext ?_)
    match a with
    | ⟨0, _⟩ => show (y 0).val / 2048 = b.val; omega
    | ⟨1, _⟩ => show (y 0).val % 2048 = s.val; omega
    | ⟨2, _⟩ => show (y 1).val / 128 * 192 + (128 + (y 1).val % 128) = 192 * h.val + (128 + (y 1).val % 128); omega
  · exact absurd hc.2 he
  · exact absurd ⟨by omega, he⟩ hc
  · rfl

/-- The queries' other 64 features, then zeros. -/
theorem blk1 (c : Dev nD) (t : Fin cfg0.N) (y : S2048x256.Idx) (b : Fin 8) (h : Fin 16) (s : Fin 2048)
    (hb : b.val = t.val / 8) (hs : s.val = (y 0).val) (hh : h.val = 2 * (t.val % 8) + (y 1).val / 128) :
    iblk m c 1 t y = if he : (y 1).val % 128 < 64 then Q m c b h s (⟨128 + (y 1).val % 128, by omega⟩ : Fin 192) else 0 := by
  have hN : t.val < 64 := lt_of_lt_of_eq t.isLt N_0
  have e0 : ((win0_1.blk t).view.emb y 0).val = 2048 * (t.val / 8) + (y 0).val := by blk_simp [idx1 t]; omega
  have e1 : ((win0_1.blk t).view.emb y 1).val = 256 * (t.val % 8) + (y 1).val := by blk_simp [idx1 t]; omega
  refine (read5 m c ((win0_1.blk t).view.emb y) b h s (by omega) (by omega)).trans ?_
  have e2 : ((win0_1.blk t).view.emb y 1).val % 128 = (y 1).val % 128 := by omega
  simp only [e2]

/-- The shared key part of the first 2048 positions, then zeros. -/
theorem blk3 (c : Dev nD) (t : Fin cfg0.N) (y : S2048x128.Idx) (b : Fin 8) (n : Fin 2048)
    (hb : b.val = t.val / 8) (hn : n.val = (y 0).val) :
    iblk m c 3 t y = if he : (y 1).val < 64 then arg2 m c (ix3 b n (⟨(y 1).val, he⟩ : Fin 64)) else 0 := by
  have hN : t.val < 64 := lt_of_lt_of_eq t.isLt N_0
  have e0 : ((win0_3.blk t).view.emb y 0).val = 2048 * (t.val / 8) + (y 0).val := by blk_simp [idx3 t]; omega
  have e1 : ((win0_3.blk t).view.emb y 1).val = (y 1).val := by blk_simp [idx3 t]
  refine (read8 m c ((win0_3.blk t).view.emb y) b n (by omega)).trans ?_
  simp only [e1]

/-- And of the context's positions. -/
theorem blk5 (c : Dev nD) (t : Fin cfg0.N) (y : S256x128.Idx) (b : Fin 8) (n : Fin 256)
    (hb : b.val = t.val / 8) (hn : n.val = (y 0).val) :
    iblk m c 5 t y = if he : (y 1).val < 64 then arg4 m c (ix3 b n (⟨(y 1).val, he⟩ : Fin 64)) else 0 := by
  have hN : t.val < 64 := lt_of_lt_of_eq t.isLt N_0
  have e0 : ((win0_5.blk t).view.emb y 0).val = 256 * (t.val / 8) + (y 0).val := by blk_simp [idx5 t]; omega
  have e1 : ((win0_5.blk t).view.emb y 1).val = (y 1).val := by blk_simp [idx5 t]
  refine (read11 m c ((win0_5.blk t).view.emb y) b n (by omega)).trans ?_
  simp only [e1]

end Cert.Attn
-- ==== Proof.AttnKV.lean ====
/- What the attention kernel's two scratches hold of its input blocks after each grid point. -/
module

public import proofs.«01_k».proof.Proof.AttnBase
public import Idealize.ShloMosaic.Lib.WritesUnit

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-- Row `n` of the latent rows followed by the context's rows. -/
def sel {w : ℕ} (A : FVec Ideal ⟨2, ![2048, w]⟩ .bf16) (B : FVec Ideal ⟨2, ![256, w]⟩ .bf16) (n : Fin 2304) (k : Fin w) : EReal :=
  if h : n.val < 2048 then A (ix2 ⟨n.val, h⟩ k) else B (ix2 ⟨n.val - 2048, by omega⟩ k)

section Pieces

variable {Val : EltTy → Type}

/-- A list of stores read back: the newest store that holds an index decides what is read there. -/
structure Newest (Rd : List (View.Piece Val S2x2304x256 .bf16) → S2x2304x256.Idx → Val .bf16) : Prop where
  hit : ∀ (r : Rect S2x2304x256) (w : r.shape.Idx → Val .bf16) (L : List (View.Piece Val S2x2304x256 .bf16)) (x : r.shape.Idx), Rd (⟨r, w⟩ :: L) (r.emb x) = w x
  miss : ∀ (p : View.Piece Val S2x2304x256 .bf16) (L : List (View.Piece Val S2x2304x256 .bf16)) (y : S2x2304x256.Idx), y ∉ p.1.set → Rd (p :: L) y = Rd L y

variable {Rd : List (View.Piece Val S2x2304x256 .bf16) → S2x2304x256.Idx → Val .bf16} (H : Newest Rd)

include H in
theorem Newest.at {off size : Fin 3 → ℕ} (inb : ∀ a, off a + size a ≤ S2x2304x256.size a) (w : (Rect.unit (s := S2x2304x256) off size inb).shape.Idx → Val .bf16)
    (L : List (View.Piece Val S2x2304x256 .bf16)) (y : S2x2304x256.Idx) (x : (Rect.unit (s := S2x2304x256) off size inb).shape.Idx)
    (hx : ∀ a, (y a).val = off a + (x a).val) : Rd (⟨Rect.unit off size inb, w⟩ :: L) y = w x := by
  have hy : (Rect.unit (s := S2x2304x256) off size inb).emb x = y := funext fun a => Fin.ext (by
    show off a + 1 * (x a).val = (y a).val
    rw [hx a, Nat.one_mul])
  rw [← hy]
  exact H.hit _ w L x

include H in
theorem Newest.off {off size : Fin 3 → ℕ} (inb : ∀ a, off a + size a ≤ S2x2304x256.size a) (w : (Rect.unit (s := S2x2304x256) off size inb).shape.Idx → Val .bf16)
    (L : List (View.Piece Val S2x2304x256 .bf16)) (y : S2x2304x256.Idx) (a : Fin 3) (ha : (y a).val < off a ∨ off a + size a ≤ (y a).val) :
    Rd (⟨Rect.unit off size inb, w⟩ :: L) y = Rd L y := by
  refine H.miss _ L y ?_
  rw [Rect.mem_set_unit]
  intro hall
  have := hall a
  omega

include H in
/-- Four stores that fill the 128 columns from `o` of both planes, read inside those columns. -/
theorem Newest.four (o : ℕ) (b3 b2 b1 b0)
    (p3 : (Rect.unit (s := S2x2304x256) ![1, 2048, o] ![1, 256, 128] b3).shape.Idx → Val .bf16)
    (p2 : (Rect.unit (s := S2x2304x256) ![1, 0, o] ![1, 2048, 128] b2).shape.Idx → Val .bf16)
    (p1 : (Rect.unit (s := S2x2304x256) ![0, 2048, o] ![1, 256, 128] b1).shape.Idx → Val .bf16)
    (p0 : (Rect.unit (s := S2x2304x256) ![0, 0, o] ![1, 2048, 128] b0).shape.Idx → Val .bf16)
    (L : List (View.Piece Val S2x2304x256 .bf16)) (g : Fin 2 → Fin 2304 → Fin 128 → Val .bf16)
    (h3 : ∀ (a : Fin 256) (e : Fin 128), p3 (ix3 (0 : Fin 1) a e) = g 1 ⟨2048 + a.val, by omega⟩ e)
    (h2 : ∀ (a : Fin 2048) (e : Fin 128), p2 (ix3 (0 : Fin 1) a e) = g 1 ⟨a.val, by omega⟩ e)
    (h1 : ∀ (a : Fin 256) (e : Fin 128), p1 (ix3 (0 : Fin 1) a e) = g 0 ⟨2048 + a.val, by omega⟩ e)
    (h0 : ∀ (a : Fin 2048) (e : Fin 128), p0 (ix3 (0 : Fin 1) a e) = g 0 ⟨a.val, by omega⟩ e)
    (j : Fin 2) (n : Fin 2304) (e : Fin 128) (k : Fin 256) (hk : k.val = o + e.val) :
    Rd (⟨Rect.unit ![1, 2048, o] ![1, 256, 128] b3, p3⟩ :: ⟨Rect.unit ![1, 0, o] ![1, 2048, 128] b2, p2⟩ :: ⟨Rect.unit ![0, 2048, o] ![1, 256, 128] b1, p1⟩ :: ⟨Rect.unit ![0, 0, o] ![1, 2048, 128] b0, p0⟩ :: L) (ix3 j n k) = g j n e := by
  have hn := n.isLt
  have hj : j = 0 ∨ j = 1 := by omega
  by_cases h : n.val < 2048
  · rw [H.off b3 _ _ _ 1 (.inl h)]
    rcases hj with rfl | rfl
    · rw [H.off b2 _ _ _ 0 (.inl Nat.zero_lt_one), H.off b1 _ _ _ 1 (.inl h),
        H.at b0 _ _ _ (ix3 (0 : Fin 1) (⟨n.val, h⟩ : Fin 2048) e) (by intro a; fin_cases a; exacts [rfl, (Nat.zero_add _).symm, hk])]
      exact h0 _ _
    · rw [H.at b2 _ _ _ (ix3 (0 : Fin 1) (⟨n.val, h⟩ : Fin 2048) e) (by intro a; fin_cases a; exacts [rfl, (Nat.zero_add _).symm, hk])]
      exact h2 _ _
  · have hs : n = ⟨2048 + (n.val - 2048), by omega⟩ := Fin.ext (by show n.val = 2048 + (n.val - 2048); omega)
    have hs' : n.val = 2048 + (n.val - 2048) := by omega
    rcases hj with rfl | rfl
    · rw [H.off b3 _ _ _ 0 (.inl Nat.zero_lt_one), H.off b2 _ _ _ 0 (.inl Nat.zero_lt_one),
        H.at b1 _ _ _ (ix3 (0 : Fin 1) (⟨n.val - 2048, by omega⟩ : Fin 256) e) (by intro a; fin_cases a; exacts [rfl, hs', hk]), h1, ← hs]
    · rw [H.at b3 _ _ _ (ix3 (0 : Fin 1) (⟨n.val - 2048, by omega⟩ : Fin 256) e) (by intro a; fin_cases a; exacts [rfl, hs', hk]), h3, ← hs]

include H in
/-- The same four stores, read at another column. -/
theorem Newest.past (o : ℕ) (b3 b2 b1 b0)
    (p3 : (Rect.unit (s := S2x2304x256) ![1, 2048, o] ![1, 256, 128] b3).shape.Idx → Val .bf16)
    (p2 : (Rect.unit (s := S2x2304x256) ![1, 0, o] ![1, 2048, 128] b2).shape.Idx → Val .bf16)
    (p1 : (Rect.unit (s := S2x2304x256) ![0, 2048, o] ![1, 256, 128] b1).shape.Idx → Val .bf16)
    (p0 : (Rect.unit (s := S2x2304x256) ![0, 0, o] ![1, 2048, 128] b0).shape.Idx → Val .bf16)
    (L : List (View.Piece Val S2x2304x256 .bf16)) (j : Fin 2) (n : Fin 2304) (k : Fin 256) (hk : k.val < o ∨ o + 128 ≤ k.val) :
    Rd (⟨Rect.unit ![1, 2048, o] ![1, 256, 128] b3, p3⟩ :: ⟨Rect.unit ![1, 0, o] ![1, 2048, 128] b2, p2⟩ :: ⟨Rect.unit ![0, 2048, o] ![1, 256, 128] b1, p1⟩ :: ⟨Rect.unit ![0, 0, o] ![1, 2048, 128] b0, p0⟩ :: L) (ix3 j n k) = Rd L (ix3 j n k) := by
  rw [H.off b3 _ _ _ 2 hk, H.off b2 _ _ _ 2 hk, H.off b1 _ _ _ 2 hk, H.off b0 _ _ _ 2 hk]

end Pieces

theorem newest_canon : Newest (Val := Elt Ideal) (fun L => View.canon L) :=
  ⟨fun r w L x => View.canon_cons_emb r w L x, fun p L _ h => View.canon_cons_of_not_mem p L h⟩

theorem newest_read {κ : Kind} {sp : Space} (v : View sig κ sp S2x2304x256 .bf16) (f : v.ty.Contents (Elt Ideal)) :
    Newest (Val := Elt Ideal) (fun L => v.read (Elt Ideal) (v.writes (Elt Ideal) f L)) :=
  ⟨fun r w L x => View.read_writes_cons_emb v f r w L x, fun p L y h => by
    show v.read (Elt Ideal) (v.writes (Elt Ideal) f (p :: L)) y = _
    rw [View.writes_cons]
    exact View.read_slice_write_of_not_mem _ _ _ _ (by rw [Rect.map_emb_univ]; exact h)⟩

theorem K_nope_A (c : Dev nD) (t : Fin cfg0.N) (g0 : t.val % 64 = 0) (g1 : t.val % 8 = 0) (j : Fin 2) (n : Fin 2304) (e : Fin 128) (k : Fin 256) (hk : k.val = 0 + e.val) :
    (outsAt0 m c t.val t.isLt).2.2.2.1 (ix3 j n k) = sel (iblk m c 2 t) (iblk m c 4 t) n (⟨256 * j.val + e.val, by omega⟩ : Fin 512) := by
  rw [outsAt0_A m c t g0 g1]
  frame_out
  refine newest_canon.four 0 _ _ _ _ _ _ _ _ _ (fun j n e => sel (iblk m c 2 t) (iblk m c 4 t) n (⟨256 * j.val + e.val, by omega⟩ : Fin 512)) ?_ ?_ ?_ ?_ j n e k hk
  all_goals
    intro a e
    unfold sel
    first
      | (rw [dif_neg (by simp)]; pointwise [k0_pay12, k0_pay13, k0_pay14, k0_pay15]; done)
      | (rw [dif_pos (by simp)]; pointwise [k0_pay12, k0_pay13, k0_pay14, k0_pay15]; done)

theorem K_nope_B (c : Dev nD) (t : Fin cfg0.N) (g0 : ¬t.val % 64 = 0) (g1 : ¬t.val % 8 = 0) (j : Fin 2) (n : Fin 2304) (e : Fin 128) (k : Fin 256) (hk : k.val = 0 + e.val) :
    (outsAt0 m c t.val t.isLt).2.2.2.1 (ix3 j n k) = sel (iblk m c 2 t) (iblk m c 4 t) n (⟨256 * j.val + e.val, by omega⟩ : Fin 512) := by
  rw [outsAt0_B m c t g0 g1]
  frame_out
  refine (newest_read _ _).four 0 _ _ _ _ _ _ _ _ _ (fun j n e => sel (iblk m c 2 t) (iblk m c 4 t) n (⟨256 * j.val + e.val, by omega⟩ : Fin 512)) ?_ ?_ ?_ ?_ j n e k hk
  all_goals
    intro a e
    unfold sel
    first
      | (rw [dif_neg (by simp)]; pointwise [k0_pay12, k0_pay13, k0_pay14, k0_pay15]; done)
      | (rw [dif_pos (by simp)]; pointwise [k0_pay12, k0_pay13, k0_pay14, k0_pay15]; done)

theorem K_nope_C (c : Dev nD) (t : Fin cfg0.N) (g0 : ¬t.val % 64 = 0) (g1 : t.val % 8 = 0) (j : Fin 2) (n : Fin 2304) (e : Fin 128) (k : Fin 256) (hk : k.val = 0 + e.val) :
    (outsAt0 m c t.val t.isLt).2.2.2.1 (ix3 j n k) = sel (iblk m c 2 t) (iblk m c 4 t) n (⟨256 * j.val + e.val, by omega⟩ : Fin 512) := by
  rw [outsAt0_C m c t g0 g1]
  frame_out
  refine newest_canon.four 0 _ _ _ _ _ _ _ _ _ (fun j n e => sel (iblk m c 2 t) (iblk m c 4 t) n (⟨256 * j.val + e.val, by omega⟩ : Fin 512)) ?_ ?_ ?_ ?_ j n e k hk
  all_goals
    intro a e
    unfold sel
    first
      | (rw [dif_neg (by simp)]; pointwise [k0_pay12, k0_pay13, k0_pay14, k0_pay15]; done)
      | (rw [dif_pos (by simp)]; pointwise [k0_pay12, k0_pay13, k0_pay14, k0_pay15]; done)

theorem V_val_A (c : Dev nD) (t : Fin cfg0.N) (g0 : t.val % 64 = 0) (g1 : t.val % 8 = 0) (j : Fin 2) (n : Fin 2304) (e : Fin 128) (k : Fin 256) (hk : k.val = 0 + e.val) :
    (outsAt0 m c t.val t.isLt).2.2.2.2 (ix3 j n k) = sel (iblk m c 2 t) (iblk m c 4 t) n (⟨256 * j.val + 128 + e.val, by omega⟩ : Fin 512) := by
  rw [outsAt0_A m c t g0 g1]
  frame_out
  refine newest_canon.four 0 _ _ _ _ _ _ _ _ _ (fun j n e => sel (iblk m c 2 t) (iblk m c 4 t) n (⟨256 * j.val + 128 + e.val, by omega⟩ : Fin 512)) ?_ ?_ ?_ ?_ j n e k hk
  all_goals
    intro a e
    unfold sel
    first
      | (rw [dif_neg (by simp)]; pointwise [k0_pay12, k0_pay13, k0_pay14, k0_pay15]; done)
      | (rw [dif_pos (by simp)]; pointwise [k0_pay12, k0_pay13, k0_pay14, k0_pay15]; done)

theorem V_val_B (c : Dev nD) (t : Fin cfg0.N) (g0 : ¬t.val % 64 = 0) (g1 : ¬t.val % 8 = 0) (j : Fin 2) (n : Fin 2304) (e : Fin 128) (k : Fin 256) (hk : k.val = 0 + e.val) :
    (outsAt0 m c t.val t.isLt).2.2.2.2 (ix3 j n k) = sel (iblk m c 2 t) (iblk m c 4 t) n (⟨256 * j.val + 128 + e.val, by omega⟩ : Fin 512) := by
  rw [outsAt0_B m c t g0 g1]
  frame_out
  refine (newest_read _ _).four 0 _ _ _ _ _ _ _ _ _ (fun j n e => sel (iblk m c 2 t) (iblk m c 4 t) n (⟨256 * j.val + 128 + e.val, by omega⟩ : Fin 512)) ?_ ?_ ?_ ?_ j n e k hk
  all_goals
    intro a e
    unfold sel
    first
      | (rw [dif_neg (by simp)]; pointwise [k0_pay12, k0_pay13, k0_pay14, k0_pay15]; done)
      | (rw [dif_pos (by simp)]; pointwise [k0_pay12, k0_pay13, k0_pay14, k0_pay15]; done)

theorem V_val_C (c : Dev nD) (t : Fin cfg0.N) (g0 : ¬t.val % 64 = 0) (g1 : t.val % 8 = 0) (j : Fin 2) (n : Fin 2304) (e : Fin 128) (k : Fin 256) (hk : k.val = 0 + e.val) :
    (outsAt0 m c t.val t.isLt).2.2.2.2 (ix3 j n k) = sel (iblk m c 2 t) (iblk m c 4 t) n (⟨256 * j.val + 128 + e.val, by omega⟩ : Fin 512) := by
  rw [outsAt0_C m c t g0 g1]
  frame_out
  refine (newest_read _ _).four 0 _ _ _ _ _ _ _ _ _ (fun j n e => sel (iblk m c 2 t) (iblk m c 4 t) n (⟨256 * j.val + 128 + e.val, by omega⟩ : Fin 512)) ?_ ?_ ?_ ?_ j n e k hk
  all_goals
    intro a e
    unfold sel
    first
      | (rw [dif_neg (by simp)]; pointwise [k0_pay12, k0_pay13, k0_pay14, k0_pay15]; done)
      | (rw [dif_pos (by simp)]; pointwise [k0_pay12, k0_pay13, k0_pay14, k0_pay15]; done)

theorem K_rope_A (c : Dev nD) (t : Fin cfg0.N) (g0 : t.val % 64 = 0) (g1 : t.val % 8 = 0) (j : Fin 2) (n : Fin 2304) (e : Fin 128) (k : Fin 256) (hk : k.val = 128 + e.val) :
    (outsAt0 m c t.val t.isLt).2.2.2.1 (ix3 j n k) = sel (iblk m c 3 t) (iblk m c 5 t) n e := by
  rw [outsAt0_A m c t g0 g1]
  frame_out
  refine (newest_canon.past 0 _ _ _ _ _ _ _ _ _ j n k (.inr (by omega))).trans ?_
  refine newest_canon.four 128 _ _ _ _ _ _ _ _ _ (fun _ n e => sel (iblk m c 3 t) (iblk m c 5 t) n e) ?_ ?_ ?_ ?_ j n e k hk
  all_goals
    intro a e
    unfold sel
    first
      | (rw [dif_neg (by simp)]; pointwise [k0_pay12, k0_pay13, k0_pay14, k0_pay15]; done)
      | (rw [dif_pos (by simp)]; pointwise [k0_pay12, k0_pay13, k0_pay14, k0_pay15]; done)

theorem K_rope_C (c : Dev nD) (t : Fin cfg0.N) (g0 : ¬t.val % 64 = 0) (g1 : t.val % 8 = 0) (j : Fin 2) (n : Fin 2304) (e : Fin 128) (k : Fin 256) (hk : k.val = 128 + e.val) :
    (outsAt0 m c t.val t.isLt).2.2.2.1 (ix3 j n k) = sel (iblk m c 3 t) (iblk m c 5 t) n e := by
  rw [outsAt0_C m c t g0 g1]
  frame_out
  refine (newest_canon.past 0 _ _ _ _ _ _ _ _ _ j n k (.inr (by omega))).trans ?_
  refine newest_canon.four 128 _ _ _ _ _ _ _ _ _ (fun _ n e => sel (iblk m c 3 t) (iblk m c 5 t) n e) ?_ ?_ ?_ ?_ j n e k hk
  all_goals
    intro a e
    unfold sel
    first
      | (rw [dif_neg (by simp)]; pointwise [k0_pay12, k0_pay13, k0_pay14, k0_pay15]; done)
      | (rw [dif_pos (by simp)]; pointwise [k0_pay12, k0_pay13, k0_pay14, k0_pay15]; done)

theorem K_held_B (c : Dev nD) (t : Fin cfg0.N) (g0 : ¬t.val % 64 = 0) (g1 : ¬t.val % 8 = 0) (j : Fin 2) (n : Fin 2304) (k : Fin 256) (hk : 128 ≤ k.val) :
    (outsAt0 m c t.val t.isLt).2.2.2.1 (ix3 j n k) = (outsAt0 m c (t.val - 1) (by omega)).2.2.2.1 (ix3 j n k) := by
  rw [outsAt0_B m c t g0 g1]
  frame_out
  refine ((newest_read _ _).past 0 _ _ _ _ _ _ _ _ _ j n k (.inr (by omega))).trans ?_
  exact congrFun (read_unread_whole _ _ _) _

theorem V_held_B (c : Dev nD) (t : Fin cfg0.N) (g0 : ¬t.val % 64 = 0) (g1 : ¬t.val % 8 = 0) (j : Fin 2) (n : Fin 2304) (k : Fin 256) (hk : 128 ≤ k.val) :
    (outsAt0 m c t.val t.isLt).2.2.2.2 (ix3 j n k) = (outsAt0 m c (t.val - 1) (by omega)).2.2.2.2 (ix3 j n k) := by
  rw [outsAt0_B m c t g0 g1]
  frame_out
  refine ((newest_read _ _).past 0 _ _ _ _ _ _ _ _ _ j n k (.inr (by omega))).trans ?_
  exact congrFun (read_unread_whole _ _ _) _

theorem V_held_C (c : Dev nD) (t : Fin cfg0.N) (g0 : ¬t.val % 64 = 0) (g1 : t.val % 8 = 0) (j : Fin 2) (n : Fin 2304) (k : Fin 256) (hk : 128 ≤ k.val) :
    (outsAt0 m c t.val t.isLt).2.2.2.2 (ix3 j n k) = (outsAt0 m c (t.val - 1) (by omega)).2.2.2.2 (ix3 j n k) := by
  rw [outsAt0_C m c t g0 g1]
  frame_out
  refine ((newest_read _ _).past 0 _ _ _ _ _ _ _ _ _ j n k (.inr (by omega))).trans ?_
  exact congrFun (read_unread_whole _ _ _) _

theorem V_one_A (c : Dev nD) (t : Fin cfg0.N) (g0 : t.val % 64 = 0) (g1 : t.val % 8 = 0) (j : Fin 2) (n : Fin 2304) (k : Fin 256) (hk : k.val = 128) :
    (outsAt0 m c t.val t.isLt).2.2.2.2 (ix3 j n k) = (1 : EReal) := by
  rw [outsAt0_A m c t g0 g1]
  frame_out
  refine (newest_canon.past 0 _ _ _ _ _ _ _ _ _ j n k (.inr (by omega))).trans ?_
  have hj : j = 0 ∨ j = 1 := by omega
  rcases hj with rfl | rfl
  · refine (newest_canon.off _ _ _ _ 0 (.inl Nat.zero_lt_one)).trans ?_
    refine (newest_canon.at _ _ _ _ (ix3 (0 : Fin 1) n (0 : Fin 128)) (by intro a; fin_cases a; exacts [rfl, (Nat.zero_add _).symm, hk])).trans ?_
    pointwise []
  · refine (newest_canon.at _ _ _ _ (ix3 (0 : Fin 1) n (0 : Fin 128)) (by intro a; fin_cases a; exacts [rfl, (Nat.zero_add _).symm, hk])).trans ?_
    pointwise []

theorem K_nope (c : Dev nD) (t : Fin cfg0.N) (j : Fin 2) (n : Fin 2304) (e : Fin 128) (k : Fin 256) (hk : k.val = 0 + e.val) :
    (outsAt0 m c t.val t.isLt).2.2.2.1 (ix3 j n k) = sel (iblk m c 2 t) (iblk m c 4 t) n (⟨256 * j.val + e.val, by omega⟩ : Fin 512) := by
  by_cases g0 : t.val % 64 = 0
  · exact K_nope_A m c t g0 (by omega) j n e k hk
  · by_cases g1 : t.val % 8 = 0
    · exact K_nope_C m c t g0 g1 j n e k hk
    · exact K_nope_B m c t g0 g1 j n e k hk

theorem V_val (c : Dev nD) (t : Fin cfg0.N) (j : Fin 2) (n : Fin 2304) (e : Fin 128) (k : Fin 256) (hk : k.val = 0 + e.val) :
    (outsAt0 m c t.val t.isLt).2.2.2.2 (ix3 j n k) = sel (iblk m c 2 t) (iblk m c 4 t) n (⟨256 * j.val + 128 + e.val, by omega⟩ : Fin 512) := by
  by_cases g0 : t.val % 64 = 0
  · exact V_val_A m c t g0 (by omega) j n e k hk
  · by_cases g1 : t.val % 8 = 0
    · exact V_val_C m c t g0 g1 j n e k hk
    · exact V_val_B m c t g0 g1 j n e k hk

/-- The rotary columns of the keys are stored at the first head pair of a block of rows and held to its last. -/
theorem K_rope (c : Dev nD) (j : Fin 2) (n : Fin 2304) (e : Fin 128) (k : Fin 256) (hk : k.val = 128 + e.val) : ∀ (p : ℕ) (hp : p < cfg0.N),
    (outsAt0 m c p hp).2.2.2.1 (ix3 j n k) = sel (iblk m c 3 ⟨8 * (p / 8), by omega⟩) (iblk m c 5 ⟨8 * (p / 8), by omega⟩) n e := by
  have start : ∀ (t : Fin cfg0.N), t.val % 8 = 0 → (outsAt0 m c t.val t.isLt).2.2.2.1 (ix3 j n k) = sel (iblk m c 3 t) (iblk m c 5 t) n e := by
    intro t g1
    by_cases g0 : t.val % 64 = 0
    · exact K_rope_A m c t g0 g1 j n e k hk
    · exact K_rope_C m c t g0 g1 j n e k hk
  intro p
  induction p with
  | zero => intro hp; exact start ⟨0, hp⟩ rfl
  | succ p ih =>
    intro hp
    by_cases g1 : (p + 1) % 8 = 0
    · have e0 : (⟨8 * ((p + 1) / 8), by omega⟩ : Fin cfg0.N) = ⟨p + 1, hp⟩ := Fin.ext (by show 8 * ((p + 1) / 8) = p + 1; omega)
      rw [e0]
      exact start ⟨p + 1, hp⟩ g1
    · have e0 : (⟨8 * ((p + 1) / 8), by omega⟩ : Fin cfg0.N) = ⟨8 * (p / 8), by omega⟩ := Fin.ext (by show 8 * ((p + 1) / 8) = 8 * (p / 8); omega)
      rw [e0]
      exact (K_held_B m c ⟨p + 1, hp⟩ (by show ¬(p + 1) % 64 = 0; omega) g1 j n k (by omega)).trans (ih (Nat.lt_of_succ_lt hp))

/-- The column of ones beside the values is stored at the first grid point and held from then on. -/
theorem V_one (c : Dev nD) (j : Fin 2) (n : Fin 2304) (k : Fin 256) (hk : k.val = 128) : ∀ (p : ℕ) (hp : p < cfg0.N),
    (outsAt0 m c p hp).2.2.2.2 (ix3 j n k) = (1 : EReal) := by
  intro p
  induction p with
  | zero => intro hp; exact V_one_A m c ⟨0, hp⟩ rfl rfl j n k hk
  | succ p ih =>
    intro hp
    have hN : p + 1 < 64 := lt_of_lt_of_eq hp (show cfg0.N = 64 from N_0)
    have g0 : ¬(p + 1) % 64 = 0 := by omega
    by_cases g1 : (p + 1) % 8 = 0
    · exact (V_held_C m c ⟨p + 1, hp⟩ g0 g1 j n k (by omega)).trans (ih (Nat.lt_of_succ_lt hp))
    · exact (V_held_B m c ⟨p + 1, hp⟩ g0 g1 j n k (by omega)).trans (ih (Nat.lt_of_succ_lt hp))

end Cert.Attn
-- ==== Proof.AttnPoint.lean ====
/- The attention kernel's queries, keys and values in a point, as entries of the arguments. -/
module

public import proofs.«01_k».proof.Proof.AttnPad
public import proofs.«01_k».proof.Proof.AttnKV

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-- The scaled queries of the tile at rows `256 r …`, for the point's head `j`. -/
theorem qt_at (c : Dev nD) (t : Fin cfg0.N) (r : Fin 8) (j : Fin 2) (i e : Fin 256) (b : Fin 8) (h : Fin 16) (s : Fin 2048)
    (hb : b.val = t.val / 8) (hh : h.val = 2 * (t.val % 8) + j.val) (hs : s.val = 256 * r.val + i.val) :
    qt m c t (256 * r.val) (128 * j.val) (by omega) (by omega) (ix2 i e)
      = (if he : e.val < 192 then Q m c b h s ⟨e.val, he⟩ else 0) * (((Real.sqrt 192)⁻¹ * (Real.log 2)⁻¹ : ℝ) : EReal) := by
  have hN : t.val < 64 := lt_of_lt_of_eq t.isLt N_0
  pointwise [qt, k0_pay16]
  refine congrArg₂ _ ?_ ?_
  swap
  · simp [Named.named, κ]
  by_cases h1 : e.val < 128
  · rw [dif_pos h1, dif_pos (show e.val < 192 by omega)]
    exact blk0 m c t _ b h s _ hb hs (by show h.val = 2 * (t.val % 8) + (128 * j.val + e.val) / 128; omega) (by show e.val = (128 * j.val + e.val) % 128; omega)
  · rw [dif_neg h1]
    refine (blk1 m c t _ b h s hb hs (by show h.val = 2 * (t.val % 8) + (128 * j.val + (e.val - 128)) / 128; omega)).trans ?_
    have e1 : ((ix2 (⟨256 * r.val + i.val, by omega⟩ : Fin 2048) (⟨128 * j.val + (e.val - 128), by omega⟩ : Fin 256) : S2048x256.Idx) 1).val % 128 = e.val - 128 := by
      show (128 * j.val + (e.val - 128)) % 128 = _
      omega
    by_cases h2 : e.val < 192
    · rw [dif_pos h2]
      refine (dif_pos (lt_of_eq_of_lt e1 (by omega))).trans (congrArg (Q m c b h s) (Fin.ext ?_))
      show 128 + _ = e.val
      omega
    · rw [dif_neg h2]
      exact dif_neg (fun h3 => absurd (lt_of_eq_of_lt e1.symm h3) (by omega))

/-- Key `n` of the point's head `j`. -/
theorem K_at (c : Dev nD) (t : Fin cfg0.N) (j : Fin 2) (n : Fin 2304) (e : Fin 256) (b : Fin 8) (h : Fin 16)
    (hb : b.val = t.val / 8) (hh : h.val = 2 * (t.val % 8) + j.val) :
    (outsAt0 m c t.val t.isLt).2.2.2.1 (ix3 j n e) = if he : e.val < 192 then Kf m c b h n ⟨e.val, he⟩ else (0 : EReal) := by
  have hN : t.val < 64 := lt_of_lt_of_eq t.isLt N_0
  unfold Kf KV PE
  by_cases h1 : e.val < 128
  · rw [K_nope m c t j n (⟨e.val, h1⟩ : Fin 128) e (Nat.zero_add _).symm, dif_pos (by omega)]
    unfold sel
    simp only [h1, dite_true]
    split_ifs with hn
    · exact blk2 m c t _ b _ _ hb rfl (by show 256 * h.val + e.val = 512 * (t.val % 8) + (256 * j.val + e.val); omega)
    · exact blk4 m c t _ b _ _ hb rfl (by show 256 * h.val + e.val = 512 * (t.val % 8) + (256 * j.val + e.val); omega)
  · rw [K_rope m c j n (⟨e.val - 128, by omega⟩ : Fin 128) e (by show e.val = 128 + (e.val - 128); omega)]
    unfold sel
    simp only [h1, dite_false]
    have hb' : b.val = 8 * (t.val / 8) / 8 := by omega
    split_ifs with hn h2 h2
    · exact (blk3 m c _ _ b ⟨n.val, hn⟩ hb' rfl).trans (dif_pos (show e.val - 128 < 64 by omega))
    · exact (blk3 m c _ _ b ⟨n.val, hn⟩ hb' rfl).trans (dif_neg (show ¬ e.val - 128 < 64 by omega))
    · exact (blk5 m c _ _ b ⟨n.val - 2048, by omega⟩ hb' rfl).trans (dif_pos (show e.val - 128 < 64 by omega))
    · exact (blk5 m c _ _ b ⟨n.val - 2048, by omega⟩ hb' rfl).trans (dif_neg (show ¬ e.val - 128 < 64 by omega))

/-- Value `n` of the point's head `j`. -/
theorem V_at (c : Dev nD) (t : Fin cfg0.N) (j : Fin 2) (n : Fin 2304) (d : Fin 128) (e : Fin 256) (b : Fin 8) (h : Fin 16)
    (he : e.val = d.val) (hb : b.val = t.val / 8) (hh : h.val = 2 * (t.val % 8) + j.val) :
    (outsAt0 m c t.val t.isLt).2.2.2.2 (ix3 j n e) = Vf m c b h n d := by
  rw [V_val m c t j n d e (by omega)]
  unfold Vf KV sel
  split_ifs with hn
  · exact blk2 m c t _ b _ _ hb rfl (by show 256 * h.val + (128 + d.val) = 512 * (t.val % 8) + (256 * j.val + 128 + d.val); omega)
  · exact blk4 m c t _ b _ _ hb rfl (by show 256 * h.val + (128 + d.val) = 512 * (t.val % 8) + (256 * j.val + 128 + d.val); omega)

end Cert.Attn
-- ==== Proof.AttnRef.lean ====
/- The softmax attention's reference, read at an index. -/
module

public import proofs.«01_k».proof.Proof.AttnModel
public import proofs.«01_k».proof.Proof.Gen.ReferenceIdeal.Read

@[expose] public section

set_option maxRecDepth 16384

noncomputable section

namespace Cert.Attn

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ)

theorem ref_q (c : Dev nD) (b : Fin 8) (h : Fin 16) (s : Fin 2048) (e : Fin 192) :
    val_main_v6 (F := Ideal) (arg0 m c) (ix4 b h s e) = Q m c b h s e := by
  pointwise [val_main_v6, val_main_v5, val_main_v0, Q]
  blk_ext

theorem ref_kl (c : Dev nD) (b : Fin 8) (h : Fin 16) (n : Fin 2048) (e : Fin 128) :
    val_main_v9 (F := Ideal) (arg1 m c) (ix4 b h n e) = arg1 m c (ix3 b n (⟨256 * h.val + e.val, by omega⟩ : Fin 4096)) := by
  pointwise [val_main_v9, val_main_v8, val_main_v7, val_main_v1]
  blk_ext

theorem ref_kc (c : Dev nD) (b : Fin 8) (h : Fin 16) (n : Fin 256) (e : Fin 128) :
    val_main_v16 (F := Ideal) (arg3 m c) (ix4 b h n e) = arg3 m c (ix3 b n (⟨256 * h.val + e.val, by omega⟩ : Fin 4096)) := by
  pointwise [val_main_v16, val_main_v15, val_main_v14, val_main_v3]
  blk_ext

theorem ref_pl (c : Dev nD) (b : Fin 8) (h : Fin 16) (n : Fin 2048) (e : Fin 64) :
    val_main_v12 (F := Ideal) (arg2 m c) (ix4 b h n e) = arg2 m c (ix3 b n e) := by
  pointwise [val_main_v12, val_main_v11, val_main_v2]

theorem ref_pc (c : Dev nD) (b : Fin 8) (h : Fin 16) (n : Fin 256) (e : Fin 64) :
    val_main_v19 (F := Ideal) (arg4 m c) (ix4 b h n e) = arg4 m c (ix3 b n e) := by
  pointwise [val_main_v19, val_main_v18, val_main_v4]

theorem ref_k (c : Dev nD) (b : Fin 8) (h : Fin 16) (n : Fin 2304) (e : Fin 192) :
    val_main_v21 (F := Ideal) (arg1 m c) (arg2 m c) (arg3 m c) (arg4 m c) (ix4 b h n e) = Kf m c b h n e := by
  pointwise [val_main_v21, val_main_v20, val_main_v13, ref_kl, ref_kc, ref_pl, ref_pc]
  unfold Kf KV PE
  split_ifs <;> rfl

theorem ref_vl (c : Dev nD) (b : Fin 8) (h : Fin 16) (n : Fin 2048) (e : Fin 128) :
    val_main_v10 (F := Ideal) (arg1 m c) (ix4 b h n e) = arg1 m c (ix3 b n (⟨256 * h.val + (128 + e.val), by omega⟩ : Fin 4096)) := by
  pointwise [val_main_v10, val_main_v8, val_main_v7, val_main_v1]
  blk_ext

theorem ref_vc (c : Dev nD) (b : Fin 8) (h : Fin 16) (n : Fin 256) (e : Fin 128) :
    val_main_v17 (F := Ideal) (arg3 m c) (ix4 b h n e) = arg3 m c (ix3 b n (⟨256 * h.val + (128 + e.val), by omega⟩ : Fin 4096)) := by
  pointwise [val_main_v17, val_main_v15, val_main_v14, val_main_v3]
  blk_ext

theorem ref_v (c : Dev nD) (b : Fin 8) (h : Fin 16) (n : Fin 2304) (d : Fin 128) :
    val_main_v22 (F := Ideal) (arg1 m c) (arg3 m c) (ix4 b h n d) = Vf m c b h n d := by
  pointwise [val_main_v22, ref_vl, ref_vc, Vf, KV]

theorem ref_s (c : Dev nD) (b : Fin 8) (h : Fin 16) (s : Fin 2048) (n : Fin 2304) :
    val_main_v27 (F := Ideal) (arg0 m c) (arg1 m c) (arg2 m c) (arg3 m c) (arg4 m c) (ix4 b h s n) = Raw m c b h s n * Ideal.div 1 (Ideal.sqrt (Ideal.ofBits FTy.f32 1128267776#32)) := by
  pointwise [val_main_v27, val_main_v26, val_main_v25, val_main_v24, val_main_v23, val_main_cst, val_main_cst_0, ref_q, ref_k, Raw]

/-- The reference's output at feature `d` of query `s`: its weights over the keys, times the values. -/
theorem ref_o (c : Dev nD) (b : Fin 8) (h : Fin 16) (s : Fin 2048) (d : Fin 128) :
    val_main_v39 (F := Ideal) (arg0 m c) (arg1 m c) (arg2 m c) (arg3 m c) (arg4 m c) (ix4 b h s d)
      = ∑ n : Fin 2304, Ideal.div (Ideal.exp (val_main_v27 (F := Ideal) (arg0 m c) (arg1 m c) (arg2 m c) (arg3 m c) (arg4 m c) (ix4 b h s n) -
              val_main_v30 (F := Ideal) (arg0 m c) (arg1 m c) (arg2 m c) (arg3 m c) (arg4 m c) (ix3 b h s)))
            (∑ n : Fin 2304, Ideal.exp (val_main_v27 (F := Ideal) (arg0 m c) (arg1 m c) (arg2 m c) (arg3 m c) (arg4 m c) (ix4 b h s n) -
              val_main_v30 (F := Ideal) (arg0 m c) (arg1 m c) (arg2 m c) (arg3 m c) (arg4 m c) (ix3 b h s))) * Vf m c b h n d := by
  pointwise [val_main_v39, val_main_v38, val_main_v37, val_main_v36, val_main_v35, val_main_v34, val_main_v33, val_main_v32, val_main_v31, val_main_cst_3, ref_v]

/-- The greatest of a finite family is above every member, and is one of them. -/
theorem fold_max {ι : Type} [Fintype ι] [Nonempty ι] (f : ι → EReal) :
    (∀ k, f k ≤ (Finset.univ : Finset ι).fold max ⊥ f) ∧ ∃ k, (Finset.univ : Finset ι).fold max ⊥ f = f k := by
  have e : (Finset.univ : Finset ι).fold max ⊥ f = Finset.univ.sup f := rfl
  rw [e]
  refine ⟨fun k => Finset.le_sup (Finset.mem_univ k), ?_⟩
  obtain ⟨k, _, hk⟩ := Finset.exists_mem_eq_sup Finset.univ Finset.univ_nonempty f
  exact ⟨k, hk⟩

/-- The host's row maximum. -/
theorem host_max (X : FVec Ideal Cert.ReferenceIdeal.S8x16x2048x2304 .f32) (b : Fin 8) (h : Fin 16) (s : Fin 2048)
    (h1 : Cert.ReferenceIdeal.S8x16x2048x2304.ReducesTo [3] Cert.ReferenceIdeal.S8x16x2048) (h2 : 0 < Cert.ReferenceIdeal.S_.numel) :
    Host.reduce (FloatOps.maximumf (F := Ideal) (φ := .f32)) X (constant (F := Ideal) Cert.ReferenceIdeal.S_ .f32 0xFF800000#32) h1 h2 (ix3 b h s)
      = (Finset.univ : Finset (Fin 2304)).fold max ⊥ (fun n => X (ix4 b h s n)) := by
  rw [Host.reduce_eq_fold, Shape.ReducesTo.fold_fiber_r4_a3]
  have hb : (constant (F := Ideal) Cert.ReferenceIdeal.S_ .f32 0xFF800000#32) (Shape.Idx.first h2) = (⊥ : EReal) :=
    show Ideal.ofBits FTy.f32 4286578688#32 = ⊥ by simp [Ideal.ofBits, Ideal.ieee]
  rw [hb]
  rfl

theorem ref_m (c : Dev nD) (b : Fin 8) (h : Fin 16) (s : Fin 2048) :
    val_main_v30 (F := Ideal) (arg0 m c) (arg1 m c) (arg2 m c) (arg3 m c) (arg4 m c) (ix3 b h s)
      = (Finset.univ : Finset (Fin 2304)).fold max ⊥ (fun n => val_main_v27 (F := Ideal) (arg0 m c) (arg1 m c) (arg2 m c) (arg3 m c) (arg4 m c) (ix4 b h s n)) := by
  rw [val_main_v30_apply, val_main_v29_apply, val_main_cst_2_apply]
  unfold val_main_v28
  generalize val_main_v27 (F := Ideal) (arg0 m c) (arg1 m c) (arg2 m c) (arg3 m c) (arg4 m c) = X
  refine Eq.trans (congrArg _ (host_max X b h s _ _)) ?_
  have hb : (FloatOps.ofBits (F := Ideal) .f32 0xFF800000#32) = (⊥ : EReal) :=
    show Ideal.ofBits FTy.f32 4286578688#32 = ⊥ by simp [Ideal.ofBits, Ideal.ieee]
  rw [hb]
  exact max_bot_left _

end Cert.Attn
-- ==== Proof.Softmax.lean ====
/- Softmax attention over the extended reals, for one query row: the kernel's unnormalised form (powers of two, one
   division at the end) against the reference's normalised form (exponentials, a division per weight). -/
module

public import Idealize.ShloMosaic.PureOps.Ideal.Laws
public import Mathlib.Analysis.SpecialFunctions.Pow.Real

@[expose] public section

noncomputable section

namespace Cert.Soft

open Idealize.ShloMosaic

/-- Multiplying by a nonnegative real distributes over a sum of extended reals, whatever infinities the sum meets. -/
theorem sum_mul_real {ι : Type} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A finite sum of reals, cast. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem sub_coe (a b : ℝ) : (a : EReal) - (b : EReal) = ((a - b : ℝ) : EReal) := (EReal.coe_sub a b).symm

theorem exp2_coe (r : ℝ) : Ideal.exp2 (r : EReal) = ((Real.rpow 2 r : ℝ) : EReal) := rfl
theorem exp_coe (r : ℝ) : Ideal.exp (r : EReal) = ((Real.exp r : ℝ) : EReal) := rfl

/-- Division by a real that is not zero. -/
theorem div_real (x : EReal) {d : ℝ} (hd : d ≠ 0) : Ideal.div x (d : EReal) = x * ((d⁻¹ : ℝ) : EReal) := by
  unfold Ideal.div
  rw [if_neg (by exact_mod_cast hd), EReal.coe_inv]

/-- THE ROW LEMMA. `t` are the raw scores of a row, real; `M` the maximum of `c t`, `N` the maximum of `σ t`, and
    `c log 2 = σ`. Then the quotient of sums of powers of two is the sum of softmax weights times values. -/
theorem attend_eq {ι : Type} [Fintype ι] (t : ι → ℝ) (v : ι → EReal) {c σ : ℝ} (hc : 0 < c) (hσ : 0 < σ)
    (hcσ : c * Real.log 2 = σ) {M N : EReal}
    (hM : ∀ k, ((c * t k : ℝ) : EReal) ≤ M) (hM' : ∃ k, M = ((c * t k : ℝ) : EReal))
    (hN : ∀ k, ((σ * t k : ℝ) : EReal) ≤ N) (hN' : ∃ k, N = ((σ * t k : ℝ) : EReal)) :
    Ideal.div (∑ k, Ideal.exp2 (((c * t k : ℝ) : EReal) - M) * v k) (∑ k, Ideal.exp2 (((c * t k : ℝ) : EReal) - M))
      = ∑ k, Ideal.div (Ideal.exp (((σ * t k : ℝ) : EReal) - N)) (∑ j, Ideal.exp (((σ * t j : ℝ) : EReal) - N)) * v k := by
  obtain ⟨k0, rfl⟩ := hM'
  obtain ⟨k1, rfl⟩ := hN'
  have h1 : t k1 ≤ t k0 := by
    have := hM k1; rw [EReal.coe_le_coe_iff] at this; exact le_of_mul_le_mul_left this hc
  have h2 : t k0 ≤ t k1 := by
    have := hN k0; rw [EReal.coe_le_coe_iff] at this; exact le_of_mul_le_mul_left this hσ
  have h3 : t k1 = t k0 := le_antisymm h1 h2
  have hE : ∀ k, Ideal.exp2 (((c * t k : ℝ) : EReal) - ((c * t k0 : ℝ) : EReal)) = ((Real.exp (σ * t k - σ * t k0) : ℝ) : EReal) := by
    intro k
    rw [sub_coe, exp2_coe]
    congr 1
    show (2 : ℝ) ^ (c * t k - c * t k0) = _
    rw [Real.rpow_def_of_pos (by norm_num), ← hcσ]
    congr 1; ring
  have hF : ∀ k, Ideal.exp (((σ * t k : ℝ) : EReal) - ((σ * t k1 : ℝ) : EReal)) = ((Real.exp (σ * t k - σ * t k0) : ℝ) : EReal) := by
    intro k; rw [sub_coe, exp_coe, h3]
  simp only [hE, hF]
  rw [← coe_sum]
  have hpos : 0 < ∑ k, Real.exp (σ * t k - σ * t k0) := Finset.sum_pos (fun k _ => Real.exp_pos _) ⟨k0, Finset.mem_univ _⟩
  simp only [div_real _ hpos.ne']
  rw [sum_mul_real _ _ (inv_nonneg.mpr hpos.le)]
  refine Finset.sum_congr rfl fun k _ => ?_
  rw [mul_right_comm]

end Cert.Soft
-- ==== Proof.AttnAlg.lean ====
/- The softmax attention's output tile and the reference's row are equal, where the queries and the keys are real. -/
module

public import proofs.«01_k».proof.Proof.AttnPoint
public import proofs.«01_k».proof.Proof.AttnRef
public import proofs.«01_k».proof.Proof.Softmax

@[expose] public section

set_option maxRecDepth 16384

noncomputable section

namespace Cert.Attn

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ)

/-- A sum over 256 features whose last 64 are zero. -/
theorem sum256 (f : Fin 256 → EReal) (g : Fin 192 → EReal) (hf : ∀ e : Fin 256, f e = if he : e.val < 192 then g ⟨e.val, he⟩ else 0) :
    ∑ e, f e = ∑ e, g e := by
  refine (Fin.sum_univ_add (a := 192) (b := 64) f).trans ?_
  rw [Finset.sum_eq_zero (s := Finset.univ) (f := fun i : Fin 64 => f (Fin.natAdd 192 i)) (fun i _ => (hf _).trans (dif_neg (by simp))), add_zero]
  exact Finset.sum_congr rfl fun e _ => (hf _).trans (dif_pos e.isLt)

/-- The reference's scale. -/
theorem scale_eq : Ideal.div 1 (Ideal.sqrt (Ideal.ofBits FTy.f32 1128267776#32)) = (((Real.sqrt 192)⁻¹ : ℝ) : EReal) := by
  have h1 : Ideal.ofBits FTy.f32 1128267776#32 = ((192 : ℝ) : EReal) := by
    simp [Ideal.ofBits, Ideal.ieee]
    rw [← EReal.coe_mul]
    norm_num
  have h2 : Ideal.sqrt ((192 : ℝ) : EReal) = ((Real.sqrt 192 : ℝ) : EReal) :=
    show (if (192 : ℝ) < 0 then ⊥ else (Real.sqrt 192 : EReal)) = _ from if_neg (by norm_num)
  rw [h1, h2, Cert.Soft.div_real _ (by positivity), one_mul]

theorem scales : (Real.sqrt 192)⁻¹ * (Real.log 2)⁻¹ * Real.log 2 = (Real.sqrt 192)⁻¹ := by
  rw [mul_assoc, inv_mul_cancel₀ (Real.log_pos (by norm_num)).ne', mul_one]

/-- The score of a point's tile is the scaled sum over the 192 features. -/
theorem sc_real (c : Dev nD) (t : Fin cfg0.N) (r : Fin 8) (j : Fin 2) (i : Fin 256) (b : Fin 8) (h : Fin 16) (s : Fin 2048) (n : Fin 2304)
    (hb : b.val = t.val / 8) (hh : h.val = 2 * (t.val % 8) + j.val) (hs : s.val = 256 * r.val + i.val)
    (q k : Fin 192 → ℝ) (hq : ∀ e, Q m c b h s e = (q e : EReal)) (hk : ∀ e, Kf m c b h n e = (k e : EReal)) :
    sc j (qt m c t (256 * r.val) (128 * j.val) (by omega) (by omega)) (outsAt0 m c t.val t.isLt).2.2.2.1 i n
      = (((Real.sqrt 192)⁻¹ * (Real.log 2)⁻¹ * ∑ e, q e * k e : ℝ) : EReal) := by
  unfold sc
  rw [sum256 _ (fun e => (((Real.sqrt 192)⁻¹ * (Real.log 2)⁻¹ * (q e * k e) : ℝ) : EReal)) ?_, ← Cert.Soft.coe_sum, Finset.mul_sum]
  intro e
  rw [qt_at m c t r j i e b h s hb hh hs, K_at m c t j n e b h hb hh]
  split_ifs with he
  · rw [hq, hk, ← EReal.coe_mul, ← EReal.coe_mul]
    congr 1
    ring
  · rw [zero_mul, zero_mul]

theorem raw_real (c : Dev nD) (b : Fin 8) (h : Fin 16) (s : Fin 2048) (n : Fin 2304)
    (q k : Fin 192 → ℝ) (hq : ∀ e, Q m c b h s e = (q e : EReal)) (hk : ∀ e, Kf m c b h n e = (k e : EReal)) :
    val_main_v27 (F := Ideal) (arg0 m c) (arg1 m c) (arg2 m c) (arg3 m c) (arg4 m c) (ix4 b h s n)
      = (((Real.sqrt 192)⁻¹ * ∑ e, q e * k e : ℝ) : EReal) := by
  rw [ref_s, scale_eq]
  unfold Raw
  simp only [hq, hk, ← EReal.coe_mul]
  rw [← Cert.Soft.coe_sum, ← EReal.coe_mul, mul_comm]

/-- A tile of a point's output is the reference's. -/
theorem tile_ref (c : Dev nD) (t : Fin cfg0.N) (r : Fin 8) (j : Fin 2) (i : Fin 256) (d : Fin 128) (b : Fin 8) (h : Fin 16) (s : Fin 2048)
    (hb : b.val = t.val / 8) (hh : h.val = 2 * (t.val % 8) + j.val) (hs : s.val = 256 * r.val + i.val)
    (hq : ∀ e, ∃ x : ℝ, Q m c b h s e = (x : EReal)) (hk : ∀ n e, ∃ x : ℝ, Kf m c b h n e = (x : EReal)) :
    tileKV j.val j.isLt (qt m c t (256 * r.val) (128 * j.val) (by omega) (by omega))
      (outsAt0 m c t.val t.isLt).2.2.2.1 (outsAt0 m c t.val t.isLt).2.2.2.2 (ix2 i d)
      = val_main_v39 (F := Ideal) (arg0 m c) (arg1 m c) (arg2 m c) (arg3 m c) (arg4 m c) (ix4 b h s d) := by
  choose q hq using hq
  choose k hk using hk
  obtain ⟨M, hM, hM', e⟩ := tileKV_row j.val j.isLt (qt m c t (256 * r.val) (128 * j.val) (by omega) (by omega))
    (outsAt0 m c t.val t.isLt).2.2.2.1 (outsAt0 m c t.val t.isLt).2.2.2.2 i d (fun n => V_one m c j n 128 rfl t.val t.isLt)
  obtain ⟨hN, hN'⟩ := fold_max (fun n : Fin 2304 => val_main_v27 (F := Ideal) (arg0 m c) (arg1 m c) (arg2 m c) (arg3 m c) (arg4 m c) (ix4 b h s n))
  rw [e, ref_o, ref_m]
  have hV : ∀ n, (outsAt0 m c t.val t.isLt).2.2.2.2 (ix3 (⟨j.val, j.isLt⟩ : Fin 2) n (⟨d.val, by omega⟩ : Fin 256)) = Vf m c b h n d :=
    fun n => V_at m c t j n d _ b h rfl hb hh
  have hS : ∀ n, sc ⟨j.val, j.isLt⟩ (qt m c t (256 * r.val) (128 * j.val) (by omega) (by omega)) (outsAt0 m c t.val t.isLt).2.2.2.1 i n
      = (((Real.sqrt 192)⁻¹ * (Real.log 2)⁻¹ * ∑ e, q e * k n e : ℝ) : EReal) :=
    fun n => sc_real m c t r j i b h s n hb hh hs q (k n) hq (hk n)
  have hR := fun n => raw_real m c b h s n q (k n) hq (hk n)
  generalize (Finset.univ : Finset (Fin 2304)).fold max ⊥ (fun n => val_main_v27 (F := Ideal) (arg0 m c) (arg1 m c) (arg2 m c) (arg3 m c) (arg4 m c) (ix4 b h s n)) = N at hN hN' ⊢
  simp only [hV, hS, hR] at hM hM' hN hN' ⊢
  exact Cert.Soft.attend_eq (fun n => ∑ e, q e * k n e) (fun n => Vf m c b h n d)
    (mul_pos (inv_pos.mpr (Real.sqrt_pos.mpr (by norm_num))) (inv_pos.mpr (Real.log_pos (by norm_num))))
    (inv_pos.mpr (Real.sqrt_pos.mpr (by norm_num))) scales hM hM' hN hN'

end Cert.Attn
-- ==== Proof.AttnFinite.lean ====
/- What the precondition of the softmax attention gives: real queries and keys. -/
module

public import proofs.«01_k».proof.Proof.AttnModel
public import proofs.«01_k».proof.Defs
public import proofs.«01_k».proof.Proof.Gen.Pre_finite

@[expose] public section

set_option maxRecDepth 16384

noncomputable section

namespace Cert.Attn

open Cert.KernelIdeal Cert.KernelIdeal.Gen Idealize.ShloMosaic Idealize.ShloMosaic.TcCoe Idealize.SL.Sem

/-- A conjunction of bits over a set is one only if each bit is. -/
theorem fold_and {ι : Type} (S : Finset ι) (f : ι → BitVec 1) (a : BitVec 1) (h : S.fold IntOp.andi a f = 1#1) : ∀ k ∈ S, f k = 1#1 := by
  classical
  have both : ∀ x y : BitVec 1, IntOp.andi x y = 1#1 → x = 1#1 ∧ y = 1#1 := by decide
  induction S using Finset.induction_on with
  | empty => intro k hk; exact absurd hk (Finset.notMem_empty k)
  | insert b S hb ih =>
    rw [Finset.fold_insert hb] at h
    intro k hk
    rcases Finset.mem_insert.mp hk with rfl | hk
    · exact (both _ _ h).1
    · exact ih (both _ _ h).2 k hk

/-- The host's conjunction of an array's bits, taken to a scalar. -/
theorem all_and {s : Shape} {axes : List (Fin s.rank)} (x : IVec s 1) (a : IVec Cert.Pre_finite.S_ 1) (h : s.ReducesTo axes Cert.Pre_finite.S_)
    (hu : 0 < Cert.Pre_finite.S_.numel) (j : Cert.Pre_finite.S_.Idx) (h1 : Host.reduce IntOp.andi x a h hu j = 1#1) (i : s.Idx) : x i = 1#1 := by
  rw [Host.reduce_eq_fold] at h1
  exact fold_and _ _ _ h1 i (Finset.mem_filter.mpr ⟨Finset.mem_univ i, funext fun a => a.elim0⟩)

/-- An entry whose absolute value is below infinity is real. -/
theorem real_of_lt (x : EReal) (h : Ideal.cmp .olt (max x (-x)) (Ideal.ofBits FTy.f32 0x7F800000#32) = 1#1) : ∃ r : ℝ, x = (r : EReal) := by
  have hinf : Ideal.ofBits FTy.f32 0x7F800000#32 = ⊤ := by simp [Ideal.ofBits, Ideal.ieee]
  rw [hinf] at h
  induction x with
  | bot => simp [Ideal.cmp] at h
  | top => simp [Ideal.cmp] at h
  | coe r => exact ⟨r, rfl⟩

variable (m : (ℓ : Loc nD τ sig) → Buf (Elt Ideal) ℓ)

/-- The entries the precondition speaks of are real. -/
theorem reals (hpre : Cert.Pre_KernelIdeal_finite m) (c : Dev nD) :
    (∀ i, ∃ r : ℝ, arg0 m c i = (r : EReal))
      ∧ (∀ (n : Fin 262144) (e : Fin 128), ∃ r : ℝ, shapeCast Cert.Pre_finite.S262144x256 (arg1 m c) Cert.Pre_finite.Facts.shapeCasts_S8x2048x4096_S262144x256 (ix2 n (⟨e.val, by omega⟩ : Fin 256)) = (r : EReal))
      ∧ (∀ i, ∃ r : ℝ, arg2 m c i = (r : EReal))
      ∧ (∀ (n : Fin 32768) (e : Fin 128), ∃ r : ℝ, shapeCast Cert.Pre_finite.S32768x256 (arg3 m c) Cert.Pre_finite.Facts.shapeCasts_S8x256x4096_S32768x256 (ix2 n (⟨e.val, by omega⟩ : Fin 256)) = (r : EReal))
      ∧ (∀ i, ∃ r : ℝ, arg4 m c i = (r : EReal)) := by
  have h : Cert.Pre_finite.fn (F := Ideal) (arg0 m c) (arg1 m c) (arg2 m c) (arg3 m c) (arg4 m c) _ _ = _ := hpre c
  have h := congrFun h ix0
  generalize arg0 m c = x0 at h ⊢
  generalize arg1 m c = x1 at h ⊢
  generalize arg2 m c = x2 at h ⊢
  generalize arg3 m c = x3 at h ⊢
  generalize arg4 m c = x4 at h ⊢
  unfold Cert.Pre_finite.fn Cert.Pre_finite.fn_part1 at h
  have both : ∀ x y : BitVec 1, IntOp.andi x y = 1#1 → x = 1#1 ∧ y = 1#1 := by decide
  obtain ⟨h, h4⟩ := both _ _ h
  obtain ⟨h, h3⟩ := both _ _ h
  obtain ⟨h, h2⟩ := both _ _ h
  obtain ⟨h0, h1⟩ := both _ _ h
  refine ⟨fun i => ?_, fun n e => ?_, fun i => ?_, fun n e => ?_, fun i => ?_⟩
  · exact real_of_lt _ (all_and _ _ _ _ _ h0 i)
  · obtain ⟨r, hr⟩ := real_of_lt _ (all_and _ _ _ _ _ h1 (ix2 n e))
    refine ⟨r, Eq.trans ?_ hr⟩
    pointwise
  · exact real_of_lt _ (all_and _ _ _ _ _ h2 i)
  · obtain ⟨r, hr⟩ := real_of_lt _ (all_and _ _ _ _ _ h3 (ix2 n e))
    refine ⟨r, Eq.trans ?_ hr⟩
    pointwise
  · exact real_of_lt _ (all_and _ _ _ _ _ h4 i)

theorem Q_real (hpre : Cert.Pre_KernelIdeal_finite m) (c : Dev nD) (b : Fin 8) (h : Fin 16) (s : Fin 2048) (e : Fin 192) :
    ∃ r : ℝ, Q m c b h s e = (r : EReal) := (reals m hpre c).1 _

theorem K_real (hpre : Cert.Pre_KernelIdeal_finite m) (c : Dev nD) (b : Fin 8) (h : Fin 16) (n : Fin 2304) (e : Fin 192) :
    ∃ r : ℝ, Kf m c b h n e = (r : EReal) := by
  obtain ⟨_, h1, h2, h3, h4⟩ := reals m hpre c
  unfold Kf KV PE
  split_ifs with he hn hn
  · obtain ⟨r, hr⟩ := h1 ⟨(2048 * b.val + n.val) * 16 + h.val, by omega⟩ ⟨e.val, he⟩
    refine ⟨r, Eq.trans ?_ hr⟩
    pointwise
    blk_ext
  · obtain ⟨r, hr⟩ := h3 ⟨(256 * b.val + (n.val - 2048)) * 16 + h.val, by omega⟩ ⟨e.val, he⟩
    refine ⟨r, Eq.trans ?_ hr⟩
    pointwise
    blk_ext
  · exact h2 _
  · exact h4 _

end Cert.Attn
-- ==== Proof.AttnClaim.lean ====
/- The softmax attention: the kernel and the reference leave the same three arrays, where the queries and the keys are finite. -/
module

public import proofs.«01_k».proof.Defs
public import proofs.«01_k».proof.Proof.AttnOutA
public import proofs.«01_k».proof.Proof.AttnOutB
public import proofs.«01_k».proof.Proof.AttnOutC
public import proofs.«01_k».proof.Proof.AttnWts
public import proofs.«01_k».proof.Proof.AttnAlg
public import proofs.«01_k».proof.Proof.AttnFinite
public import proofs.«01_k».proof.Proof.Gen.ReferenceIdeal.Run
public import proofs.«01_k».proof.Proof.Gen.KernelIdeal
public import proofs.«01_k».proof.Proof.Gen.ReferenceIdeal

@[expose] public section

set_option maxRecDepth 16384

noncomputable section

namespace Cert.Attn

open Cert.KernelIdeal Cert.KernelIdeal.Gen Idealize.ShloMosaic Idealize.ShloMosaic.TcCoe Idealize.SL.Sem
open Cert.ReferenceIdeal.Read

/-- At every point each output tile is the attention of its queries over the keys and values then in scratch. -/
theorem out_tile (m : (ℓ : Loc nD τ sig) → Buf (Elt Ideal) ℓ) (c : Dev nD) (t : Fin cfg0.N) (r : Fin 8) (j : Fin 2) (i : Fin 256) (d : Fin 128) (y : S2048x256.Idx)
    (hy0 : (y 0).val = 256 * r.val + i.val) (hy1 : (y 1).val = 128 * j.val + d.val) :
    (outsAt0 m c t.val t.isLt).1 y = tileKV j.val j.isLt (qt m c t (256 * r.val) (128 * j.val) (by omega) (by omega))
      (outsAt0 m c t.val t.isLt).2.2.2.1 (outsAt0 m c t.val t.isLt).2.2.2.2 (ix2 i d) := by
  by_cases g1 : t.val % 8 = 0
  · by_cases g0 : t.val % 64 = 0
    · exact out_tile_A m c t g0 g1 r j i d y hy0 hy1
    · exact out_tile_C m c t g0 g1 r j i d y hy0 hy1
  · exact out_tile_B m c t (by omega) g1 r j i d y hy0 hy1

/-- The attention's output array. -/
def G8 (m : (ℓ : Loc nD τ sig) → Buf (Elt Ideal) ℓ) (c : Dev nD) : S16384x2048.Idx → EReal := fun i =>
  val_main_v39 (F := Ideal) (arg0 m c) (arg1 m c) (arg2 m c) (arg3 m c) (arg4 m c)
    (ix4 (⟨(i 0).val / 2048, Nat.div_lt_of_lt_mul (i 0).isLt⟩ : Fin 8) (⟨(i 1).val / 128, Nat.div_lt_of_lt_mul (i 1).isLt⟩ : Fin 16)
      (⟨(i 0).val % 2048, Nat.mod_lt _ (by decide)⟩ : Fin 2048) (⟨(i 1).val % 128, Nat.mod_lt _ (by decide)⟩ : Fin 128))

theorem final8 (m : (ℓ : Loc nD τ sig) → Buf (Elt Ideal) ℓ) (hpre : Cert.Pre_KernelIdeal_finite m) (c : Dev nD) : (dats m 0 c).arrAt 8 cfg0.N = G8 m c := by
  refine (dats m 0 c).arrAt_eq_of_covers 8 _ (by decide +kernel) fun t hf y => ?_
  blk_simp
  rw [after0_8]
  have hy0 : (y 0).val < 2048 := (y 0).isLt
  have hy1 : (y 1).val < 256 := (y 1).isLt
  have hN : t.val < 64 := lt_of_lt_of_eq t.isLt N_0
  have e0 : (((cfg0.win 8).blk t).view.emb y 0).val = 2048 * (t.val / 8) + (y 0).val := by blk_simp [idx8 t]; omega
  have e1 : (((cfg0.win 8).blk t).view.emb y 1).val = 256 * (t.val % 8) + (y 1).val := by blk_simp [idx8 t]; omega
  refine (out_tile m c t ⟨(y 0).val / 256, by omega⟩ ⟨(y 1).val / 128, by omega⟩ ⟨(y 0).val % 256, by omega⟩ ⟨(y 1).val % 128, by omega⟩ y
    (by show (y 0).val = 256 * ((y 0).val / 256) + (y 0).val % 256; omega) (by show (y 1).val = 128 * ((y 1).val / 128) + (y 1).val % 128; omega)).trans ?_
  refine (tile_ref m c t _ _ _ _ ⟨t.val / 8, by omega⟩ ⟨2 * (t.val % 8) + (y 1).val / 128, by omega⟩ ⟨(y 0).val, hy0⟩ rfl rfl
    (by show (y 0).val = 256 * ((y 0).val / 256) + (y 0).val % 256; omega) (Q_real m hpre c _ _ _) (K_real m hpre c _ _)).trans ?_
  unfold G8
  refine congrArg _ (funext fun a => Fin.ext ?_)
  match a with
  | ⟨0, _⟩ => show t.val / 8 = (((cfg0.win 8).blk t).view.emb y 0).val / 2048; omega
  | ⟨1, _⟩ => show 2 * (t.val % 8) + (y 1).val / 128 = (((cfg0.win 8).blk t).view.emb y 1).val / 128; omega
  | ⟨2, _⟩ => show (y 0).val = (((cfg0.win 8).blk t).view.emb y 0).val % 2048; omega
  | ⟨3, _⟩ => show (y 1).val % 128 = (((cfg0.win 8).blk t).view.emb y 1).val % 128; omega

/-- The reference's first result, from the kernel's arguments. -/
theorem ref8 (m : (ℓ : Loc nD τ sig) → Buf (Elt Ideal) ℓ) (c : Dev nD) :
    val_main_v43 (F := Ideal) (arg0 m c) (arg1 m c) (arg2 m c) (arg3 m c) (arg4 m c) = G8 m c := by
  funext i
  have h0 : (i 0).val < 16384 := (i 0).isLt
  have h1 : (i 1).val < 2048 := (i 1).isLt
  rw [← ix2_eta i]
  pointwise [val_main_v43, val_main_v42, val_main_v41, val_main_v40, G8]
  blk_ext

theorem ref9 (m : (ℓ : Loc nD τ sig) → Buf (Elt Ideal) ℓ) (c : Dev nD) : val_main_v46 (F := Ideal) (arg5 m c) = G9 m c := by
  funext i
  rw [← ix2_eta i]
  pointwise [val_main_v46, val_main_v45, val_main_v44, G9]

theorem ref10 (m : (ℓ : Loc nD τ sig) → Buf (Elt Ideal) ℓ) (c : Dev nD) : val_main_v49 (F := Ideal) (arg6 m c) = G10 m c := by
  funext i
  rw [← ix2_eta i]
  pointwise [val_main_v49, val_main_v48, val_main_v47, G10]

/-- Kernel and reference compute the same function over the extended reals, where the queries and the keys are finite. -/
theorem algebraic : Cert.algebraic_KernelIdeal_ReferenceIdeal_pre_finite := by
  intro m g m' g' hpre hargs
  refine ⟨fun c => G8 m c, fun c => G9 m c, fun c => G10 m c, ?_, ?_⟩
  · exact (θ_run defs _ _).mono (fun r h c => ⟨(h c).1.trans (final8 m hpre c), (h c).2.1.trans (final9 m c), (h c).2.2.1.trans (final10 m c), (h c).2.2.2⟩)
      (Cert.KernelIdeal.Value.run_blocks (F := Ideal) m g)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' g')
    all_goals obtain ⟨a0, a1, a2, a3, a4, a5, a6⟩ := hargs c
    · rw [val_main_v43_eq, a0, a1, a2, a3, a4]
      exact ref8 m c
    · rw [a5]
      exact (val_main_v46_eq _).trans (ref9 m c)
    · rw [a6]
      exact (val_main_v49_eq _).trans (ref10 m c)

end Cert.Attn
-- ==== Proof.MlpModel.lean ====
/- The squared-ReLU MLP: where the kernel's blocks lie, and what both programs compute. -/
module

public import proofs.«01_k».proof.Proof.Gen.Kernel2Ideal.Value
public import Idealize.ShloMosaic.Lib.Pipeline.ValueKit.Held
public import Idealize.ShloMosaic.Lib.Pipeline.ValueKit
public import Idealize.ShloMosaic.Lib.Pointwise

@[expose] public section

set_option maxRecDepth 16384

noncomputable section

namespace Cert.Mlp

open Cert.Kernel2Ideal Cert.Kernel2Ideal.Gen Idealize.ShloMosaic Idealize.ShloMosaic.TcCoe Idealize.SL.Sem

variable (m : (ℓ : Loc nD τ sig) → Buf (Elt Ideal) ℓ)

/-! ## Where a point's blocks lie -/

theorem idx0 : ∀ t : Fin cfg0.N, win0_0.index t = ![t.val / 8, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 32, 0, 0] := (by decide +kernel : ∀ t : Fin grid0.N, _)
theorem idx3 : ∀ t : Fin cfg0.N, win0_3.index t = ![t.val / 32, 0, 0] := (by decide +kernel : ∀ t : Fin grid0.N, _)
theorem idx4 : ∀ t : Fin cfg0.N, win0_4.index t = ![t.val / 32, 0, 0] := (by decide +kernel : ∀ t : Fin grid0.N, _)
theorem idx5 : ∀ t : Fin cfg0.N, win0_5.index t = ![0, t.val % 8] := (by decide +kernel : ∀ t : Fin grid0.N, _)
theorem idx6 : ∀ t : Fin cfg0.N, win0_6.index t = ![t.val % 8, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 8, 0] := (by decide +kernel : ∀ t : Fin grid0.N, _)

/-! ## The arguments -/

abbrev arg0 (c : Dev nD) : S8x2048x2048.Idx → EReal := m ((c : Thread nD τ).loc main_arg0)
abbrev arg1 (c : Dev nD) : S2048.Idx → EReal := m ((c : Thread nD τ).loc main_arg1)
abbrev arg2 (c : Dev nD) : S8x2048.Idx → EReal := m ((c : Thread nD τ).loc main_arg2)
abbrev arg3 (c : Dev nD) : S8x2048.Idx → EReal := m ((c : Thread nD τ).loc main_arg3)
abbrev arg4 (c : Dev nD) : S8x2048.Idx → EReal := m ((c : Thread nD τ).loc main_arg4)
abbrev arg5 (c : Dev nD) : S2048x8192.Idx → EReal := m ((c : Thread nD τ).loc main_arg5)
abbrev arg6 (c : Dev nD) : S8192x2048.Idx → EReal := m ((c : Thread nD τ).loc main_arg6)
abbrev arg7 (c : Dev nD) : S2048.Idx → EReal := m ((c : Thread nD τ).loc main_arg7)

/-! ## What the two programs compute, at token `s` of batch `b` -/

/-- The normalised and modulated input. -/
def H (c : Dev nD) (b : Fin 8) (s d : Fin 2048) : EReal :=
  arg0 m c (ix3 b s d) *
      Ideal.rsqrt (Ideal.div (∑ e : Fin 2048, arg0 m c (ix3 b s e) * arg0 m c (ix3 b s e)) (Ideal.ofBits FTy.f32 1157627904#32) + Ideal.ofBits FTy.f32 897988541#32) *
      arg1 m c (ix1 d) * (1 + arg3 m c (ix2 b d)) + arg2 m c (ix2 b d)

/-- The squared positive part of hidden feature `k`. -/
def A (c : Dev nD) (b : Fin 8) (s : Fin 2048) (k : Fin 8192) : EReal :=
  max (∑ d, H m c b s d * arg5 m c (ix2 d k)) 0 * max (∑ d, H m c b s d * arg5 m c (ix2 d k)) 0

/-- The share of the hidden features `1024 f … 1024 f + 1023` in output feature `e`. -/
def part (c : Dev nD) (b : Fin 8) (s e : Fin 2048) (f : ℕ) : EReal :=
  if h : f < 8 then
    ∑ k : Fin 1024, A m c b s ⟨1024 * f + k.val, by omega⟩ * arg6 m c (ix2 ⟨1024 * f + k.val, by omega⟩ e)
  else 0

/-- The input plus the gated output of the MLP. -/
def Y (c : Dev nD) (b : Fin 8) (s e : Fin 2048) : EReal :=
  arg0 m c (ix3 b s e) + arg4 m c (ix2 b e) *
    ∑ k : Fin 8192, A m c b s k * arg6 m c (ix2 k e)

/-- Its final normalisation. -/
def Out (c : Dev nD) (b : Fin 8) (s e : Fin 2048) : EReal :=
  Y m c b s e *
      Ideal.rsqrt (Ideal.div (∑ d : Fin 2048, Y m c b s d * Y m c b s d) (Ideal.ofBits FTy.f32 1157627904#32) + Ideal.ofBits FTy.f32 897988541#32) *
      arg7 m c (ix1 e)

end Cert.Mlp
-- ==== Proof.MlpFirst.lean ====
/- The MLP kernel's body at the first point of a row tile: the normalised input kept, the accumulator begun. -/
module

public import proofs.«01_k».proof.Proof.MlpModel
public import Idealize.ShloMosaic.Lib.Pipeline.ValueKit.Held
public import Idealize.ShloMosaic.Lib.Pipeline.ValueKit
public import Idealize.ShloMosaic.Lib.Pointwise

@[expose] public section

set_option maxRecDepth 16384

noncomputable section

namespace Cert.Mlp

open Cert.Kernel2Ideal Cert.Kernel2Ideal.Gen Idealize.ShloMosaic Idealize.ShloMosaic.TcCoe Idealize.SL.Sem

variable (m : (ℓ : Loc nD τ sig) → Buf (Elt Ideal) ℓ)

theorem h_first (c : Dev nD) (t : Fin cfg0.N) (h0 : t.val % 8 = 0) (y : S512x2048.Idx) (b : Fin 8) (s e : Fin 2048) (he : e.val = (y 1).val)
    (hb : b.val = t.val / 32) (hs : s.val = 512 * (t.val / 8 % 4) + (y 0).val) :
    (outsAt0 m c t.val t.isLt).2.1 y = H m c b s e := by
  rw [outsAt0_A m c t h0 (by omega) (by omega)]
  frame_out
  canon_tiles x h
  all_goals
    pointwise [k0_pay12, k0_pay11, k0_pay8, k0_pay7, k0_pay4, k0_pay5, k0_pay6, H]
    blk_point [iblk, V, idx0 t, idx1 t, idx2 t, idx3 t]

theorem acc_first (c : Dev nD) (t : Fin cfg0.N) (h0 : t.val % 8 = 0) (y : S512x2048.Idx) (b : Fin 8) (s e : Fin 2048) (he : e.val = (y 1).val)
    (hb : b.val = t.val / 32) (hs : s.val = 512 * (t.val / 8 % 4) + (y 0).val) :
    (outsAt0 m c t.val t.isLt).2.2 y = part m c b s e 0 := by
  rw [outsAt0_A m c t h0 (by omega) (by omega)]
  frame_out
  rw [part, dif_pos (by omega)]
  canon_tiles x h
  all_goals
    pointwise [k0_pay1, k0_pay13, k0_pay12, k0_pay11, k0_pay10, k0_pay9, k0_pay8, k0_pay7, k0_pay4, k0_pay5, k0_pay6, H, A]
    blk_point [iblk, V, idx0 t, idx1 t, idx2 t, idx3 t, idx5 t, idx6 t]

end Cert.Mlp
-- ==== Proof.MlpRest.lean ====
/- The MLP kernel's body at the later points of a row tile. -/
module

public import proofs.«01_k».proof.Proof.MlpModel
public import Idealize.ShloMosaic.Lib.Pipeline.ValueKit.Held
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Mlp

open Cert.Kernel2Ideal Cert.Kernel2Ideal.Gen Idealize.ShloMosaic Idealize.ShloMosaic.TcCoe Idealize.SL.Sem

variable (m : (ℓ : Loc nD τ sig) → Buf (Elt Ideal) ℓ)

theorem h_mid (c : Dev nD) (t : Fin cfg0.N) (h0 : ¬t.val % 8 = 0) (h1 : t.val % 8 ≤ 6) :
    (outsAt0 m c t.val t.isLt).2.1 = (outsAt0 m c (t.val - 1) (Nat.lt_of_le_of_lt (Nat.sub_le _ _) t.isLt)).2.1 := by
  rw [outsAt0_B m c t h0 (by omega) (by omega)]
  rfl

theorem acc_mid (c : Dev nD) (t : Fin cfg0.N) (h0 : ¬t.val % 8 = 0) (h1 : t.val % 8 ≤ 6) (y : S512x2048.Idx) (b : Fin 8) (s e : Fin 2048) (he : e.val = (y 1).val)
    (hh : ∀ d, (outsAt0 m c (t.val - 1) (Nat.lt_of_le_of_lt (Nat.sub_le _ _) t.isLt)).2.1 (ix2 (y 0) d) = H m c b s d) :
    (outsAt0 m c t.val t.isLt).2.2 y = (outsAt0 m c (t.val - 1) (Nat.lt_of_le_of_lt (Nat.sub_le _ _) t.isLt)).2.2 y + part m c b s e (t.val % 8) := by
  rw [outsAt0_B m c t h0 (by omega) (by omega)]
  frame_out
  rw [part, dif_pos (by omega), read_unread_whole, read_unread_whole]
  pointwise [k0_pay2, A]
  simp only [hh]
  blk_point [iblk, V, idx5 t, idx6 t]

/-- The last point's payload for its first 256 rows, at row `i`: `S` is the MLP's whole sum. -/
theorem pay15_eq (g : Vec Ideal S1x1x2048 .f32) (h : Vec Ideal S256x2048 .bf16) (w1 : Vec Ideal S2048x1024 .bf16) (w2 : Vec Ideal S1024x2048 .bf16)
    (x a : Vec Ideal S256x2048 .f32) (fg : Vec Ideal S1x2048 .f32) (i : Fin 256) (j : Fin 2048) (S : Fin 2048 → EReal)
    (hS : ∀ e, (a (ix2 i e) + ∑ k : Fin 1024, max (∑ d : Fin 2048, h (ix2 i d) * w1 (ix2 d k)) 0 * max (∑ d : Fin 2048, h (ix2 i d) * w1 (ix2 d k)) 0 * w2 (ix2 k e) : EReal) = S e) :
    k0_pay15 g h w1 w2 x a fg (ix2 i j) = (x (ix2 i j) + g (ix3 0 0 j) * S j) *
      Ideal.rsqrt (Ideal.div (∑ e : Fin 2048, (x (ix2 i e) + g (ix3 0 0 e) * S e) * (x (ix2 i e) + g (ix3 0 0 e) * S e)) (Ideal.ofBits FTy.f32 1157627904#32) + Ideal.ofBits FTy.f32 897988541#32) *
      fg (ix2 0 j) := by
  pointwise [k0_pay15, k0_pay14]
  simp only [hS]

/-- … and for its last 256 rows. -/
theorem pay3_eq (g : Vec Ideal S1x1x2048 .f32) (h : Vec Ideal S256x2048 .bf16) (w1 : Vec Ideal S2048x1024 .bf16) (w2 : Vec Ideal S1024x2048 .bf16)
    (x a : Vec Ideal S256x2048 .f32) (fg : Vec Ideal S1x2048 .f32) (i : Fin 256) (j : Fin 2048) (S : Fin 2048 → EReal)
    (hS : ∀ e, (a (ix2 i e) + ∑ k : Fin 1024, max (∑ d : Fin 2048, h (ix2 i d) * w1 (ix2 d k)) 0 * max (∑ d : Fin 2048, h (ix2 i d) * w1 (ix2 d k)) 0 * w2 (ix2 k e) : EReal) = S e) :
    k0_pay3 (k0_pay14 g) h w1 w2 x a fg (ix2 i j) = (x (ix2 i j) + g (ix3 0 0 j) * S j) *
      Ideal.rsqrt (Ideal.div (∑ e : Fin 2048, (x (ix2 i e) + g (ix3 0 0 e) * S e) * (x (ix2 i e) + g (ix3 0 0 e) * S e)) (Ideal.ofBits FTy.f32 1157627904#32) + Ideal.ofBits FTy.f32 897988541#32) *
      fg (ix2 0 j) := by
  pointwise [k0_pay3, k0_pay14]
  simp only [hS]

theorem out_last (c : Dev nD) (t : Fin cfg0.N) (h2 : t.val % 8 = 7) (y : S512x2048.Idx) (b : Fin 8) (s e : Fin 2048) (he : e.val = (y 1).val)
    (hb : b.val = t.val / 32) (hs : s.val = 512 * (t.val / 8 % 4) + (y 0).val)
    (hh : ∀ (r : Fin 512) d, r.val = (y 0).val → (outsAt0 m c (t.val - 1) (Nat.lt_of_le_of_lt (Nat.sub_le _ _) t.isLt)).2.1 (ix2 r d) = H m c b s d)
    (ha : ∀ (r : Fin 512) e, r.val = (y 0).val → (outsAt0 m c (t.val - 1) (Nat.lt_of_le_of_lt (Nat.sub_le _ _) t.isLt)).2.2 (ix2 r e)
      + part m c b s e 7 = ∑ k : Fin 8192, A m c b s k * arg6 m c (ix2 k e)) :
    (outsAt0 m c t.val t.isLt).1 y = Out m c b s e := by
  have hS : ∀ (r : Fin 512) (e : Fin 2048), r.val = (y 0).val →
      ((outsAt0 m c (t.val - 1) (Nat.lt_of_le_of_lt (Nat.sub_le _ _) t.isLt)).2.2 (ix2 r e) +
        ∑ k : Fin 1024, max (∑ d : Fin 2048, (outsAt0 m c (t.val - 1) (Nat.lt_of_le_of_lt (Nat.sub_le _ _) t.isLt)).2.1 (ix2 r d) * iblk m c 5 t (ix2 d k)) 0 *
        max (∑ d : Fin 2048, (outsAt0 m c (t.val - 1) (Nat.lt_of_le_of_lt (Nat.sub_le _ _) t.isLt)).2.1 (ix2 r d) * iblk m c 5 t (ix2 d k)) 0 * iblk m c 6 t (ix2 k e) : EReal)
      = ∑ k : Fin 8192, A m c b s k * arg6 m c (ix2 k e) := by
    intro r e hr
    rw [← ha r e hr, part, dif_pos (by omega)]
    simp only [hh r _ hr, A]
    blk_point [iblk, V, idx5 t, idx6 t]
  rw [outsAt0_C m c t (by omega) (by omega) (by omega)]
  frame_out
  simp only [read_unread_whole]
  canon_tiles x h
  · rw [← ix2_eta x]
    refine (pay3_eq _ _ _ _ _ _ _ (x 0) (x 1) (fun e => ∑ k : Fin 8192, A m c b s k * arg6 m c (ix2 k e)) ?_).trans ?_
    · intro e
      refine Eq.trans ?_ (hS ⟨256 + (x 0).val, by omega⟩ e h0.symm)
      pointwise
    · pointwise [Out, Y]
      blk_point [iblk, V, idx0 t, idx4 t, idx7 t]
  · rw [← ix2_eta x]
    refine (pay15_eq _ _ _ _ _ _ _ (x 0) (x 1) (fun e => ∑ k : Fin 8192, A m c b s k * arg6 m c (ix2 k e)) ?_).trans ?_
    · intro e
      refine Eq.trans ?_ (hS ⟨(x 0).val, by omega⟩ e h0.symm)
      pointwise
    · pointwise [Out, Y]
      blk_point [iblk, V, idx0 t, idx4 t, idx7 t]

end Cert.Mlp
-- ==== Proof.MlpValue.lean ====
/- The squared-ReLU MLP: the output array the kernel leaves. -/
module

public import proofs.«01_k».proof.Proof.MlpFirst
public import proofs.«01_k».proof.Proof.MlpRest

@[expose] public section

set_option maxRecDepth 16384

noncomputable section

namespace Cert.Mlp

open Cert.Kernel2Ideal Cert.Kernel2Ideal.Gen Idealize.ShloMosaic Idealize.ShloMosaic.TcCoe Idealize.SL.Sem

variable (m : (ℓ : Loc nD τ sig) → Buf (Elt Ideal) ℓ)

/-- Between the first point of a row tile and its last but one: the kept input, and the accumulator as the sum of the
    shares met so far. -/
theorem inv (c : Dev nD) : ∀ (n : ℕ) (hn : n < cfg0.N) (h : n % 8 ≤ 6) (r : Fin 512) (b : Fin 8) (s e : Fin 2048)
    (hb : b.val = n / 32) (hs : s.val = 512 * (n / 8 % 4) + r.val),
    (outsAt0 m c n hn).2.1 (ix2 r e) = H m c b s e ∧
      (outsAt0 m c n hn).2.2 (ix2 r e) = ∑ f ∈ Finset.range (n % 8 + 1), part m c b s e f := by
  intro n
  induction n with
  | zero =>
    intro hn h r b s e hb hs
    refine ⟨h_first m c ⟨0, hn⟩ rfl (ix2 r e) b s e rfl hb hs, ?_⟩
    rw [Finset.sum_range_one]
    exact acc_first m c ⟨0, hn⟩ rfl (ix2 r e) b s e rfl hb hs
  | succ n ih =>
    intro hn h r b s e hb hs
    by_cases h0 : (n + 1) % 8 = 0
    · refine ⟨h_first m c ⟨n + 1, hn⟩ h0 (ix2 r e) b s e rfl hb hs, ?_⟩
      rw [h0, Finset.sum_range_one]
      exact acc_first m c ⟨n + 1, hn⟩ h0 (ix2 r e) b s e rfl hb hs
    · have ih' := fun e' => ih (by omega) (by omega) r b s e' (by omega) (by omega)
      refine ⟨(congrFun (h_mid m c ⟨n + 1, hn⟩ h0 h) _).trans (ih' e).1, ?_⟩
      rw [Finset.sum_range_succ, show (n + 1) % 8 = n % 8 + 1 by omega, ← (ih' e).2, show n % 8 + 1 = (n + 1) % 8 by omega]
      exact acc_mid m c ⟨n + 1, hn⟩ h0 h (ix2 r e) b s e rfl fun d => (ih' d).1

/-- The eight shares are the sum over all hidden features. -/
theorem sum_parts (c : Dev nD) (b : Fin 8) (s e : Fin 2048) :
    ∑ f ∈ Finset.range 8, part m c b s e f = ∑ k : Fin 8192, A m c b s k * arg6 m c (ix2 k e) := by
  rw [Finset.sum_range]
  refine Eq.trans (Finset.sum_congr rfl fun f _ => ?_) (Fin.sum_mul_add_congr (S := 8) (n := 1024) (F := fun f k =>
    A m c b s ⟨1024 * f.val + k.val, by omega⟩ * arg6 m c (ix2 ⟨1024 * f.val + k.val, by omega⟩ e)) fun f k hl => ?_)
  · rw [part, dif_pos f.isLt]
  · have hk : (⟨1024 * f.val + k.val, by omega⟩ : Fin 8192) = ⟨f.val * 1024 + k.val, hl⟩ := Fin.ext (by simp only; omega)
    rw [hk]

/-- The kernel's output array. -/
def G (c : Dev nD) : S16384x2048.Idx → EReal := fun i =>
  Out m c ⟨(i 0).val / 2048, by have : (i 0).val < 16384 := (i 0).isLt; omega⟩ ⟨(i 0).val % 2048, by omega⟩ ⟨(i 1).val, (i 1).isLt⟩

theorem final (c : Dev nD) : (dats m 0 c).arrAt 8 cfg0.N = G m c := by
  refine (dats m 0 c).arrAt_eq_of_covers 8 _ (by decide +kernel) fun t hf y => ?_
  have h7 : t.val % 8 = 7 := (flush0_8 t).mp hf
  blk_simp
  rw [after0_8]
  have hy0 : (y 0).val < 512 := (y 0).isLt
  have hN : t.val < 256 := lt_of_lt_of_eq t.isLt N_0
  have e0 : (((cfg0.win 8).blk t).view.emb y 0).val = 512 * (t.val / 8) + (y 0).val := by blk_simp [idx8 t]; omega
  have e1 : (((cfg0.win 8).blk t).view.emb y 1).val = (y 1).val := by blk_simp [idx8 t]
  have inv' := fun (r : Fin 512) (b : Fin 8) (s e : Fin 2048) (hb : b.val = t.val / 32) (hs : s.val = 512 * (t.val / 8 % 4) + r.val) =>
    inv m c (t.val - 1) (Nat.lt_of_le_of_lt (Nat.sub_le _ _) t.isLt) (by omega) r b s e (by omega) (by omega)
  refine out_last m c t h7 y _ _ _ ?_ ?_ ?_ ?_ ?_
  · exact e1
  · show (((cfg0.win 8).blk t).view.emb y 0).val / 2048 = _
    omega
  · show (((cfg0.win 8).blk t).view.emb y 0).val % 2048 = _
    omega
  · intro r d hr
    refine (inv' r _ _ d ?_ ?_).1
    · show (((cfg0.win 8).blk t).view.emb y 0).val / 2048 = _
      omega
    · show (((cfg0.win 8).blk t).view.emb y 0).val % 2048 = _
      omega
  · intro r d hr
    rw [(inv' r _ _ d ?_ ?_).2, ← sum_parts, show (t.val - 1) % 8 + 1 = 7 by omega, Finset.sum_range_succ _ 7]
    · show (((cfg0.win 8).blk t).view.emb y 0).val / 2048 = _
      omega
    · show (((cfg0.win 8).blk t).view.emb y 0).val % 2048 = _
      omega

end Cert.Mlp
-- ==== Proof.MlpRef.lean ====
/- The squared-ReLU MLP's reference, read at an index. -/
module

public import proofs.«01_k».proof.Proof.MlpModel
public import proofs.«01_k».proof.Proof.Gen.Reference2Ideal.Read

@[expose] public section

set_option maxRecDepth 16384

noncomputable section

namespace Cert.Mlp

open Cert.Kernel2Ideal Cert.Kernel2Ideal.Gen Idealize.ShloMosaic Idealize.ShloMosaic.TcCoe Idealize.SL.Sem
open Cert.Reference2Ideal.Read

variable (m : (ℓ : Loc nD τ sig) → Buf (Elt Ideal) ℓ)

/-- The normalised and modulated input. -/
theorem ref_h (c : Dev nD) (b : Fin 8) (s d : Fin 2048) :
    val_main_v21 (F := Ideal) (arg0 m c) (arg1 m c) (arg2 m c) (arg3 m c) (ix3 b s d) = H m c b s d := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, H]

/-- The squared positive parts of the hidden features. -/
theorem ref_a (c : Dev nD) (b : Fin 8) (s : Fin 2048) (k : Fin 8192) :
    val_main_v24 (F := Ideal) (arg0 m c) (arg1 m c) (arg2 m c) (arg3 m c) (arg5 m c) (ix3 b s k) = A m c b s k := by
  pointwise [val_main_v24, val_main_v23, val_main_v22, val_main_call0_v0, val_main_call0_cst, ref_h, A]

/-- The input plus the gated output. -/
theorem ref_y (c : Dev nD) (b : Fin 8) (s e : Fin 2048) :
    val_main_v28 (F := Ideal) (arg0 m c) (arg1 m c) (arg2 m c) (arg3 m c) (arg4 m c) (arg5 m c) (arg6 m c) (ix3 b s e) = Y m c b s e := by
  pointwise [val_main_v28, val_main_v27, val_main_v26, val_main_v25, val_main_v0, ref_a, Y]

/-- The final normalisation. -/
theorem ref_out (c : Dev nD) (b : Fin 8) (s e : Fin 2048) :
    val_main_v41 (F := Ideal) (arg0 m c) (arg1 m c) (arg2 m c) (arg3 m c) (arg4 m c) (arg5 m c) (arg6 m c) (arg7 m c) (ix3 b s e) = Out m c b s e := by
  pointwise [val_main_v41, val_main_v40, val_main_v39, val_main_v38, val_main_v37, val_main_v36, val_main_v35, val_main_v34,
    val_main_v33, val_main_v32, val_main_v31, val_main_v30, val_main_v29, val_main_cst_3, val_main_cst_4, val_main_cst_5, ref_y, Out]

end Cert.Mlp
-- ==== Proof.MlpClaim.lean ====
/- The squared-ReLU MLP: the kernel and the reference leave the same array. -/
module

public import proofs.«01_k».proof.Defs
public import proofs.«01_k».proof.Proof.MlpValue
public import proofs.«01_k».proof.Proof.MlpRef
public import proofs.«01_k».proof.Proof.Gen.Reference2Ideal.Run
public import proofs.«01_k».proof.Proof.Gen.Kernel2
public import proofs.«01_k».proof.Proof.Gen.Kernel2.Frame
public import proofs.«01_k».proof.Proof.Gen.Kernel2Ideal
public import proofs.«01_k».proof.Proof.Gen.Reference2Ideal

@[expose] public section

set_option maxRecDepth 16384

noncomputable section

namespace Cert.Mlp

open Cert.Kernel2Ideal Cert.Kernel2Ideal.Gen Idealize.ShloMosaic Idealize.ShloMosaic.TcCoe Idealize.SL.Sem
open Cert.Reference2Ideal.Read

/-- The reference's result, from the kernel's arguments, is the kernel's output array. -/
theorem ref_value (m : (ℓ : Loc nD τ sig) → Buf (Elt Ideal) ℓ) (c : Dev nD) :
    val_main_v42 (F := Ideal) (arg0 m c) (arg1 m c) (arg2 m c) (arg3 m c) (arg4 m c) (arg5 m c) (arg6 m c) (arg7 m c) = G m c := by
  funext i
  have h0 : (i 0).val < 16384 := (i 0).isLt
  have h1 : (i 1).val < 2048 := (i 1).isLt
  rw [val_main_v42_apply]
  refine Eq.trans (congrArg _ ?_) (ref_out m c ⟨(i 0).val / 2048, by omega⟩ ⟨(i 0).val % 2048, by omega⟩ ⟨(i 1).val, h1⟩)
  refine funext fun a => Fin.ext ?_
  match a with
  | ⟨0, _⟩ => show ((i 0).val * 2048 + (i 1).val) / 4194304 = (i 0).val / 2048; omega
  | ⟨1, _⟩ => show ((i 0).val * 2048 + (i 1).val) / 2048 % 2048 = (i 0).val % 2048; omega
  | ⟨2, _⟩ => show ((i 0).val * 2048 + (i 1).val) % 2048 = (i 1).val; omega

/-- Kernel and reference compute the same function over the extended reals. -/
theorem algebraic : Cert.algebraic_Kernel2Ideal_Reference2Ideal := by
  intro m g m' g' _ hargs
  refine ⟨fun c => G m c, ?_, ?_⟩
  · exact (θ_run defs _ _).mono (fun r h c => ⟨(h c).1.trans (final m c), (h c).2⟩) (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    obtain ⟨a0, a1, a2, a3, a4, a5, a6, a7⟩ := hargs c
    rw [val_main_v42_eq, a0, a1, a2, a3, a4, a5, a6, a7]
    exact ref_value m c

/-- The frames of the idealised kernel and of the kernel itself. -/
theorem frame_ideal : Cert.quiescent_Kernel2Ideal := fun m ρ _ => Cert.Kernel2Ideal.Gen.frame m ρ

theorem frame_kernel : Cert.quiescent_Kernel2 := fun m ρ _ => Cert.Kernel2.Gen.frame m ρ

end Cert.Mlp
-- ==== Proof.ProjModel.lean ====
/- The input projection of the first layer: where the kernel's blocks lie, and what both programs compute. -/
module

public import proofs.«01_k».proof.Proof.Gen.Kernel3Ideal.Value
public import Idealize.ShloMosaic.Lib.Pipeline.ValueKit.Held
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj

open Cert.Kernel3Ideal Cert.Kernel3Ideal.Gen Idealize.ShloMosaic Idealize.ShloMosaic.TcCoe Idealize.SL.Sem

variable (m : (ℓ : Loc nD τ sig) → Buf (Elt Ideal) ℓ)

theorem idx0 : ∀ t : Fin cfg0.N, win0_0.index t = ![t.val / 5, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 10, 0, 0] := (by decide +kernel : ∀ t : Fin grid0.N, _)
theorem idx3 : ∀ t : Fin cfg0.N, win0_3.index t = ![t.val / 10, 0, 0] := (by decide +kernel : ∀ t : Fin grid0.N, _)
theorem idx4 : ∀ t : Fin cfg0.N, win0_4.index t = ![0, t.val % 5] := (by decide +kernel : ∀ t : Fin grid0.N, _)
theorem idx5 : ∀ t : Fin cfg0.N, win0_5.index t = ![t.val / 5, t.val % 5] := (by decide +kernel : ∀ t : Fin grid0.N, _)

abbrev arg0 (c : Dev nD) : S8x2048x2048.Idx → EReal := m ((c : Thread nD τ).loc main_arg0)
abbrev arg1 (c : Dev nD) : S2048.Idx → EReal := m ((c : Thread nD τ).loc main_arg1)
abbrev arg2 (c : Dev nD) : S8x2048.Idx → EReal := m ((c : Thread nD τ).loc main_arg2)
abbrev arg3 (c : Dev nD) : S8x2048.Idx → EReal := m ((c : Thread nD τ).loc main_arg3)
abbrev arg4 (c : Dev nD) : S2048x5120.Idx → EReal := m ((c : Thread nD τ).loc main_arg4)

/-- The normalised and modulated input. -/
def H (c : Dev nD) (b : Fin 8) (s d : Fin 2048) : EReal :=
  arg0 m c (ix3 b s d) *
      Ideal.rsqrt (Ideal.div (∑ e : Fin 2048, arg0 m c (ix3 b s e) * arg0 m c (ix3 b s e)) (Ideal.ofBits FTy.f32 1157627904#32) + Ideal.ofBits FTy.f32 897988541#32) *
      arg1 m c (ix1 d) * (1 + arg3 m c (ix2 b d)) + arg2 m c (ix2 b d)

/-- The factor of output column `e`. -/
def σ (e : Fin 5120) : EReal := if e.val < 1024 then Ideal.ofBits FTy.f32 1040356334#32 else 1

/-- Output feature `e` of token `s` of batch `b`, the factor in the weights. -/
def Y (c : Dev nD) (b : Fin 8) (s : Fin 2048) (e : Fin 5120) : EReal :=
  ∑ d : Fin 2048, H m c b s d * (arg4 m c (ix2 d e) * σ e)

/-- The factors as the host lays them out. -/
theorem V2 (c : Dev nD) (e : Fin 5120) : (V m c main_v2 : S5120.Idx → EReal) (ix1 e) = σ e := by
  have hV : (V m c main_v2 : S5120.Idx → EReal) = concatenate S5120 0
      [⟨S1024, (broadcastInDim S1024 ![] bcast_S_S1024 (constant (F := Ideal) S_ .f32 0x3E0293EE#32) : FVec Ideal S1024 .f32)⟩,
        ⟨S4096, (broadcastInDim S4096 ![] bcast_S_S4096 (constant (F := Ideal) S_ .f32 0x3F800000#32) : FVec Ideal S4096 .f32)⟩] concatenates_S1024_S4096_S5120_d0 := by
    unfold V; after_results_simp <;> rfl
  rw [hV]
  pointwise [σ]
  split_ifs <;> rfl

/-- The weights as the host hands them over. -/
theorem V10 (c : Dev nD) (d : Fin 2048) (e : Fin 5120) : (V m c main_v10 : S2048x5120.Idx → EReal) (ix2 d e) = arg4 m c (ix2 d e) * σ e := by
  have hV : (V m c main_v10 : S2048x5120.Idx → EReal) = (truncf .bf16 (mulf (arg4 m c : FVec Ideal S2048x5120 .f32)
      (broadcastInDim S2048x5120 ![0, 1] bcast_S1x5120_S2048x5120_0_1 (broadcastInDim S1x5120 ![1] bcast_S5120_S1x5120_1
        (V m c main_v2 : FVec Ideal S5120 .f32)))) bitsLt_bf16_f32 : FVec Ideal S2048x5120 .bf16) := by
    unfold V; after_results_simp <;> rfl
  have h2 := V2 m c e
  rw [hV]
  generalize (V m c main_v2 : FVec Ideal S5120 .f32) = w at h2
  pointwise
  exact congrArg (_ * ·) h2

theorem blk4 (c : Dev nD) (t : Fin cfg0.N) (d : Fin 2048) (k : Fin 1024) (e : Fin 5120) (he : e.val = 1024 * (t.val % 5) + k.val) :
    iblk m c 4 t (ix2 d k) = arg4 m c (ix2 d e) * σ e := by
  have e0 : (win0_4.blk t).view.emb (ix2 d k) = ix2 d e := by
    refine funext fun a => Fin.ext ?_
    match a with
    | ⟨0, _⟩ => blk_simp [idx4 t]
    | ⟨1, _⟩ => blk_simp [idx4 t]; omega
  exact (congrArg (V m c main_v10 : S2048x5120.Idx → EReal) e0).trans (V10 m c d e)

end Cert.Proj
-- ==== Proof.ProjValue.lean ====
/- The input projection: what each point leaves. -/
module

public import proofs.«01_k».proof.Proof.ProjModel

@[expose] public section

set_option maxRecDepth 16384

noncomputable section

namespace Cert.Proj

open Cert.Kernel3Ideal Cert.Kernel3Ideal.Gen Idealize.ShloMosaic Idealize.ShloMosaic.TcCoe Idealize.SL.Sem

variable (m : (ℓ : Loc nD τ sig) → Buf (Elt Ideal) ℓ)

theorem h_first (c : Dev nD) (t : Fin cfg0.N) (h0 : t.val % 5 = 0) (y : S1024x2048.Idx) (b : Fin 8) (s e : Fin 2048) (he : e.val = (y 1).val)
    (hb : b.val = t.val / 10) (hs : s.val = 1024 * (t.val / 5 % 2) + (y 0).val) :
    (outsAt0 m c t.val t.isLt).2 y = H m c b s e := by
  rw [outsAt0_A m c t h0 (by omega)]
  frame_out
  canon_tiles x h
  all_goals
    pointwise [k0_pay18, k0_pay17, k0_pay15, k0_pay14, k0_pay13, k0_pay12, k0_pay10, k0_pay9, k0_pay7, k0_pay6, k0_pay5, k0_pay4, k0_pay3, H]
    blk_point [iblk, V, idx0 t, idx1 t, idx2 t, idx3 t]

theorem o_first (c : Dev nD) (t : Fin cfg0.N) (h0 : t.val % 5 = 0) (y : S1024x1024.Idx) (b : Fin 8) (s : Fin 2048) (e : Fin 5120)
    (hb : b.val = t.val / 10) (hs : s.val = 1024 * (t.val / 5 % 2) + (y 0).val) (he : e.val = 1024 * (t.val % 5) + (y 1).val) :
    (outsAt0 m c t.val t.isLt).1 y = Y m c b s e := by
  have h4 := fun d => blk4 m c t d (y 1) e he
  rw [outsAt0_A m c t h0 (by omega)]
  frame_out
  canon_tiles x h
  all_goals
    pointwise [k0_pay1, k0_pay17, k0_pay16, k0_pay14, k0_pay13, k0_pay12, k0_pay11, k0_pay9, k0_pay8, k0_pay6, k0_pay5, k0_pay4, k0_pay3, Y]
    refine Finset.sum_congr rfl fun d _ => congrArg₂ _ ?_ ?_
    · unfold H
      blk_point [iblk, V, idx0 t, idx1 t, idx2 t, idx3 t]
    · refine Eq.trans ?_ (h4 d)
      blk_ext

theorem h_mid (c : Dev nD) (t : Fin cfg0.N) (h0 : ¬t.val % 5 = 0) :
    (outsAt0 m c t.val t.isLt).2 = (outsAt0 m c (t.val - 1) (Nat.lt_of_le_of_lt (Nat.sub_le _ _) t.isLt)).2 := by
  rw [outsAt0_B m c t h0 (by omega)]
  rfl

theorem o_mid (c : Dev nD) (t : Fin cfg0.N) (h0 : ¬t.val % 5 = 0) (y : S1024x1024.Idx) (b : Fin 8) (s : Fin 2048) (e : Fin 5120)
    (he : e.val = 1024 * (t.val % 5) + (y 1).val)
    (hh : ∀ d, (outsAt0 m c (t.val - 1) (Nat.lt_of_le_of_lt (Nat.sub_le _ _) t.isLt)).2 (ix2 (y 0) d) = H m c b s d) :
    (outsAt0 m c t.val t.isLt).1 y = Y m c b s e := by
  have h4 := fun d => blk4 m c t d (y 1) e he
  rw [outsAt0_B m c t h0 (by omega)]
  frame_out
  rw [read_unread_whole]
  pointwise [k0_pay2, Y]
  simp only [hh]
  exact Finset.sum_congr rfl fun d _ => congrArg₂ _ rfl (h4 d)

/-- The kept input. -/
theorem inv (c : Dev nD) : ∀ (n : ℕ) (hn : n < cfg0.N) (r : Fin 1024) (b : Fin 8) (s e : Fin 2048)
    (hb : b.val = n / 10) (hs : s.val = 1024 * (n / 5 % 2) + r.val), (outsAt0 m c n hn).2 (ix2 r e) = H m c b s e := by
  intro n
  induction n with
  | zero => exact fun hn r b s e hb hs => h_first m c ⟨0, hn⟩ rfl (ix2 r e) b s e rfl hb hs
  | succ n ih =>
    intro hn r b s e hb hs
    by_cases h0 : (n + 1) % 5 = 0
    · exact h_first m c ⟨n + 1, hn⟩ h0 (ix2 r e) b s e rfl hb hs
    · exact (congrFun (h_mid m c ⟨n + 1, hn⟩ h0) _).trans (ih (by omega) r b s e (by omega) (by omega))

theorem out_at (c : Dev nD) (t : Fin cfg0.N) (y : S1024x1024.Idx) (b : Fin 8) (s : Fin 2048) (e : Fin 5120)
    (hb : b.val = t.val / 10) (hs : s.val = 1024 * (t.val / 5 % 2) + (y 0).val) (he : e.val = 1024 * (t.val % 5) + (y 1).val) :
    (dats m 0 c).after 5 t y = Y m c b s e := by
  rw [after0_5]
  by_cases h0 : t.val % 5 = 0
  · exact o_first m c t h0 y b s e hb hs he
  · exact o_mid m c t h0 y b s e he fun d => inv m c (t.val - 1) (Nat.lt_of_le_of_lt (Nat.sub_le _ _) t.isLt) (y 0) b s d (by omega) (by omega)

/-- The kernel's output array. -/
def G (c : Dev nD) : S16384x5120.Idx → EReal := fun i =>
  Y m c ⟨(i 0).val / 2048, by have : (i 0).val < 16384 := (i 0).isLt; omega⟩ ⟨(i 0).val % 2048, by omega⟩ ⟨(i 1).val, (i 1).isLt⟩

theorem final (c : Dev nD) : (dats m 0 c).arrAt 5 cfg0.N = G m c := by
  refine (dats m 0 c).arrAt_eq_of_covers 5 _ (by decide +kernel) fun t hf y => ?_
  blk_simp
  have hy0 : (y 0).val < 1024 := (y 0).isLt
  have hy1 : (y 1).val < 1024 := (y 1).isLt
  have hN : t.val < 80 := lt_of_lt_of_eq t.isLt N_0
  have e0 : (((cfg0.win 5).blk t).view.emb y 0).val = 1024 * (t.val / 5) + (y 0).val := by blk_simp [idx5 t]; omega
  have e1 : (((cfg0.win 5).blk t).view.emb y 1).val = 1024 * (t.val % 5) + (y 1).val := by blk_simp [idx5 t]; omega
  refine out_at m c t y _ _ _ ?_ ?_ ?_
  · show (((cfg0.win 5).blk t).view.emb y 0).val / 2048 = _
    omega
  · show (((cfg0.win 5).blk t).view.emb y 0).val % 2048 = _
    omega
  · show (((cfg0.win 5).blk t).view.emb y 1).val = _
    omega

end Cert.Proj
-- ==== Proof.ProjClaim.lean ====
/- The input projection of the first layer: the kernel and the reference leave the same array. -/
module

public import proofs.«01_k».proof.Defs
public import proofs.«01_k».proof.Proof.ProjValue
public import proofs.«01_k».proof.Proof.Softmax
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Frame
public import proofs.«01_k».proof.Proof.Gen.Kernel3Ideal
public import proofs.«01_k».proof.Proof.Gen.Reference3Ideal

@[expose] public section

set_option maxRecDepth 16384

noncomputable section

namespace Cert.Proj

open Cert.Kernel3Ideal Cert.Kernel3Ideal.Gen Idealize.ShloMosaic Idealize.ShloMosaic.TcCoe Idealize.SL.Sem

variable (m : (ℓ : Loc nD τ sig) → Buf (Elt Ideal) ℓ)

open Cert.Reference3Ideal.Read

/-- The factor is a real, and not negative. -/
theorem factor : ∃ r : ℝ, 0 ≤ r ∧ Ideal.ofBits FTy.f32 1040356334#32 = (r : EReal) := by
  refine ⟨8557550 * (2 ^ 26)⁻¹, by positivity, ?_⟩
  simp [Ideal.ofBits, Ideal.ieee]

/-- The normalised and modulated input. -/
theorem ref_h (c : Dev nD) (b : Fin 8) (s d : Fin 2048) :
    val_main_v20 (F := Ideal) (arg0 m c) (arg1 m c) (arg2 m c) (arg3 m c) (ix3 b s d) = H m c b s d := by
  pointwise [val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, H]

/-- The projection, without the factor. -/
theorem ref_p (c : Dev nD) (b : Fin 8) (s : Fin 2048) (e : Fin 5120) :
    val_main_v21 (F := Ideal) (arg0 m c) (arg1 m c) (arg2 m c) (arg3 m c) (arg4 m c) (ix3 b s e) = ∑ d : Fin 2048, H m c b s d * arg4 m c (ix2 d e) := by
  pointwise [val_main_v21, ref_h]

theorem ref_q (c : Dev nD) (b : Fin 8) (s : Fin 2048) (e : Fin 1024) :
    val_main_v24 (F := Ideal) (arg0 m c) (arg1 m c) (arg2 m c) (arg3 m c) (arg4 m c) (ix3 b s e) =
      (∑ d : Fin 2048, H m c b s d * arg4 m c (ix2 d (⟨e.val, by omega⟩ : Fin 5120))) * Ideal.ofBits FTy.f32 1040356334#32 := by
  pointwise [val_main_v24, val_main_v23, val_main_v22, val_main_cst_3, ref_p]

theorem ref_r (c : Dev nD) (b : Fin 8) (s : Fin 2048) (e : Fin 4096) :
    val_main_v25 (F := Ideal) (arg0 m c) (arg1 m c) (arg2 m c) (arg3 m c) (arg4 m c) (ix3 b s e) =
      ∑ d : Fin 2048, H m c b s d * arg4 m c (ix2 d (⟨1024 + e.val, by omega⟩ : Fin 5120)) := by
  pointwise [val_main_v25, ref_p]

/-- Its first 1024 columns times the factor. -/
theorem ref_y (c : Dev nD) (b : Fin 8) (s : Fin 2048) (e : Fin 5120) :
    val_main_v26 (F := Ideal) (arg0 m c) (arg1 m c) (arg2 m c) (arg3 m c) (arg4 m c) (ix3 b s e) = Y m c b s e := by
  pointwise [val_main_v26, ref_q, ref_r]
  unfold Y σ
  by_cases he : e.val < 1024
  · rw [dif_pos he]
    simp only [if_pos he]
    obtain ⟨r, hr, h⟩ := factor
    rw [h, Cert.Soft.sum_mul_real _ _ hr]
    exact Finset.sum_congr rfl fun d _ => mul_assoc _ _ _
  · rw [dif_neg he]
    simp only [if_neg he, mul_one]
    refine Finset.sum_congr rfl fun d _ => congrArg (_ * ·) (congrArg (arg4 m c) (congrArg (ix2 d) (Fin.ext ?_)))
    show 1024 + (e.val - 1024) = e.val
    omega

/-- The reference's result, from the kernel's arguments, is the kernel's output array. -/
theorem ref_value (c : Dev nD) : val_main_v28 (F := Ideal) (arg0 m c) (arg1 m c) (arg2 m c) (arg3 m c) (arg4 m c) = G m c := by
  funext i
  have h0 : (i 0).val < 16384 := (i 0).isLt
  have h1 : (i 1).val < 5120 := (i 1).isLt
  rw [← ix2_eta i]
  pointwise [val_main_v28, val_main_v27, G]
  exact ref_y m c _ _ _

/-- Kernel and reference compute the same function over the extended reals. -/
theorem algebraic : Cert.algebraic_Kernel3Ideal_Reference3Ideal := by
  intro m g m' g' _ hargs
  refine ⟨fun c => G m c, ?_, ?_⟩
  · exact (θ_run defs _ _).mono (fun r h c => ⟨(h c).1.trans (final m c), (h c).2⟩) (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨a0, a1, a2, a3, a4⟩ := hargs c
    rw [a0, a1, a2, a3, a4]
    exact (val_main_v28_eq _ _ _ _ _).trans (ref_value m c)

/-- The frames of the kernel, of the idealised kernel and of the reference. -/
theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Proj
-- ==== Proof.OutTwoModel.lean ====
/- The output projection of the two mixers of the first layer: where the kernel's blocks lie, and what both programs compute. -/
module

public import proofs.«01_k».proof.Proof.Gen.Kernel4Ideal.Value
public import Idealize.ShloMosaic.Lib.Pipeline.ValueKit.Held
public import Idealize.ShloMosaic.Lib.Pipeline.ValueKit
public import Idealize.ShloMosaic.Lib.Pointwise
public import Idealize.ShloMosaic.Lib.Pipeline.ReadBack

@[expose] public section

set_option maxRecDepth 16384

noncomputable section

namespace Cert.OutTwo

open Cert.Kernel4Ideal Cert.Kernel4Ideal.Gen Idealize.ShloMosaic Idealize.ShloMosaic.TcCoe Idealize.SL.Sem

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val / 4, 0, 0] := (by decide +kernel : ∀ t : Fin grid0.N, _)
theorem idx5 : ∀ t : Fin cfg0.N, win0_5.index t = ![t.val, 0] := (by decide +kernel : ∀ t : Fin grid0.N, _)

abbrev arg0 (c : Dev nD) : S8x2048x1024.Idx → EReal := m ((c : Thread nD τ).loc main_arg0)
abbrev arg1 (c : Dev nD) : S8x2048x1024.Idx → EReal := m ((c : Thread nD τ).loc main_arg1)
abbrev arg2 (c : Dev nD) : S2048x2048.Idx → EReal := m ((c : Thread nD τ).loc main_arg2)
abbrev arg3 (c : Dev nD) : S8x2048x2048.Idx → EReal := m ((c : Thread nD τ).loc main_arg3)
abbrev arg4 (c : Dev nD) : S8x2048.Idx → EReal := m ((c : Thread nD τ).loc main_arg4)

/-- The residual input plus the gated projection of both mixers' outputs. -/
def Y (c : Dev nD) (b : Fin 8) (s e : Fin 2048) : EReal :=
  arg3 m c (ix3 b s e) + arg4 m c (ix2 b e) *
    (∑ k : Fin 1024, arg0 m c (ix3 b s k) * arg2 m c (ix2 (⟨k.val, by omega⟩ : Fin 2048) e) +
      ∑ k : Fin 1024, arg1 m c (ix3 b s k) * arg2 m c (ix2 (⟨1024 + k.val, by omega⟩ : Fin 2048) e))

theorem out_at (c : Dev nD) (t : Fin cfg0.N) (y : S512x2048.Idx) (b : Fin 8) (s e : Fin 2048)
    (hb : b.val = t.val / 4) (hs : s.val = 512 * (t.val % 4) + (y 0).val) (he : e.val = (y 1).val) :
    (dats m 0 c).after 5 t y = Y m c b s e := by
  rw [after0_5]
  frame_out
  canon_tiles x h
  all_goals
    pointwise [k0_pay1, k0_pay2, k0_pay3, k0_pay4, Y]
    blk_point [iblk, V, idx0 t, idx1 t, idx2 t, idx3 t, idx4 t]

/-- The kernel's output array. -/
def G (c : Dev nD) : S16384x2048.Idx → EReal := fun i =>
  Y m c ⟨(i 0).val / 2048, by have : (i 0).val < 16384 := (i 0).isLt; omega⟩ ⟨(i 0).val % 2048, by omega⟩ ⟨(i 1).val, (i 1).isLt⟩

theorem final (c : Dev nD) : (dats m 0 c).arrAt 5 cfg0.N = G m c := by
  refine (dats m 0 c).arrAt_eq_of_covers 5 _ (by decide +kernel) fun t hf y => ?_
  blk_simp
  have hy0 : (y 0).val < 512 := (y 0).isLt
  have hy1 : (y 1).val < 2048 := (y 1).isLt
  have hN : t.val < 32 := lt_of_lt_of_eq t.isLt N_0
  have e0 : (((cfg0.win 5).blk t).view.emb y 0).val = 512 * (t.val) + (y 0).val := by blk_simp [idx5 t]; omega
  have e1 : (((cfg0.win 5).blk t).view.emb y 1).val = (y 1).val := by blk_simp [idx5 t]
  refine out_at m c t y _ _ _ ?_ ?_ ?_
  · show (((cfg0.win 5).blk t).view.emb y 0).val / 2048 = _
    omega
  · show (((cfg0.win 5).blk t).view.emb y 0).val % 2048 = _
    omega
  · show (((cfg0.win 5).blk t).view.emb y 1).val = _
    omega

end Cert.OutTwo
-- ==== Proof.OutTwoClaim.lean ====
/- The output projection of the two mixers of the first layer: the kernel and the reference leave the same array. -/
module

public import proofs.«01_k».proof.Defs
public import proofs.«01_k».proof.Proof.OutTwoModel
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Frame
public import proofs.«01_k».proof.Proof.Gen.Kernel4Ideal
public import proofs.«01_k».proof.Proof.Gen.Reference4Ideal

@[expose] public section

set_option maxRecDepth 16384

noncomputable section

namespace Cert.OutTwo

open Cert.Kernel4Ideal Cert.Kernel4Ideal.Gen Idealize.ShloMosaic Idealize.ShloMosaic.TcCoe Idealize.SL.Sem

variable (m : (ℓ : Loc nD τ sig) → Buf (Elt Ideal) ℓ)

open Cert.Reference4Ideal.Read

/-- The mixers' outputs side by side. -/
theorem ref_cat (c : Dev nD) (b : Fin 8) (s k : Fin 2048) :
    val_main_v2 (F := Ideal) (arg0 m c) (arg1 m c) (ix3 b s k) =
      if hk : k.val < 1024 then arg0 m c (ix3 b s (⟨k.val, hk⟩ : Fin 1024)) else arg1 m c (ix3 b s (⟨k.val - 1024, by omega⟩ : Fin 1024)) := by
  pointwise [val_main_v2, val_main_v1, val_main_v0]

/-- The sum over all 2048 features is that over the first 1024 plus that over the last. -/
theorem ref_sum (c : Dev nD) (b : Fin 8) (s e : Fin 2048) :
    val_main_v3 (F := Ideal) (arg0 m c) (arg1 m c) (arg2 m c) (ix3 b s e) =
      ∑ k : Fin 1024, arg0 m c (ix3 b s k) * arg2 m c (ix2 (⟨k.val, by omega⟩ : Fin 2048) e) +
        ∑ k : Fin 1024, arg1 m c (ix3 b s k) * arg2 m c (ix2 (⟨1024 + k.val, by omega⟩ : Fin 2048) e) := by
  pointwise [val_main_v3, ref_cat]

/-- The reference's result, from the kernel's arguments, is the kernel's output array. -/
theorem ref_value (c : Dev nD) : val_main_v8 (F := Ideal) (arg0 m c) (arg1 m c) (arg2 m c) (arg3 m c) (arg4 m c) = G m c := by
  funext i
  have h0 : (i 0).val < 16384 := (i 0).isLt
  have h1 : (i 1).val < 2048 := (i 1).isLt
  rw [← ix2_eta i]
  pointwise [val_main_v8, val_main_v7, val_main_v6, val_main_v5, val_main_v4, G, Y]
  exact congrArg (fun z : EReal => _ + _ * z) (ref_sum m c _ _ _)

/-- Kernel and reference compute the same function over the extended reals. -/
theorem algebraic : Cert.algebraic_Kernel4Ideal_Reference4Ideal := by
  intro m g m' g' _ hargs
  refine ⟨fun c => G m c, ?_, ?_⟩
  · exact (θ_run defs _ _).mono (fun r h c => ⟨(h c).1.trans (final m c), (h c).2⟩) (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    obtain ⟨a0, a1, a2, a3, a4⟩ := hargs c
    rw [a0, a1, a2, a3, a4]
    exact (val_main_v8_eq _ _ _ _ _).trans (ref_value m c)

/-- The frames of the kernel, of the idealised kernel and of the reference. -/
theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.OutTwo
-- ==== Proof.OutOneModel.lean ====
/- The attention's output projection: where the kernel's blocks lie, and what both programs compute. -/
module

public import proofs.«01_k».proof.Proof.Gen.Kernel5Ideal.Value
public import Idealize.ShloMosaic.Lib.Pipeline.ValueKit.Held
public import Idealize.ShloMosaic.Lib.Pipeline.ValueKit
public import Idealize.ShloMosaic.Lib.Pointwise
public import Idealize.ShloMosaic.Lib.Pipeline.ReadBack

@[expose] public section

set_option maxRecDepth 16384

noncomputable section

namespace Cert.OutOne

open Cert.Kernel5Ideal Cert.Kernel5Ideal.Gen Idealize.ShloMosaic Idealize.ShloMosaic.TcCoe Idealize.SL.Sem

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val / 4, 0, 0] := (by decide +kernel : ∀ t : Fin grid0.N, _)
theorem idx4 : ∀ t : Fin cfg0.N, win0_4.index t = ![t.val, 0] := (by decide +kernel : ∀ t : Fin grid0.N, _)

abbrev arg0 (c : Dev nD) : S8x2048x2048.Idx → EReal := m ((c : Thread nD τ).loc main_arg0)
abbrev arg1 (c : Dev nD) : S2048x2048.Idx → EReal := m ((c : Thread nD τ).loc main_arg1)
abbrev arg2 (c : Dev nD) : S8x2048x2048.Idx → EReal := m ((c : Thread nD τ).loc main_arg2)
abbrev arg3 (c : Dev nD) : S8x2048.Idx → EReal := m ((c : Thread nD τ).loc main_arg3)

/-- The residual input plus the gated projection. -/
def Y (c : Dev nD) (b : Fin 8) (s e : Fin 2048) : EReal :=
  arg2 m c (ix3 b s e) + arg3 m c (ix2 b e) * ∑ k : Fin 2048, arg0 m c (ix3 b s k) * arg1 m c (ix2 k e)

theorem out_at (c : Dev nD) (t : Fin cfg0.N) (y : S512x2048.Idx) (b : Fin 8) (s e : Fin 2048)
    (hb : b.val = t.val / 4) (hs : s.val = 512 * (t.val % 4) + (y 0).val) (he : e.val = (y 1).val) :
    (dats m 0 c).after 4 t y = Y m c b s e := by
  rw [after0_4]
  frame_out
  canon_tiles x h
  all_goals
    pointwise [k0_pay2, k0_pay3, k0_pay1, Y]
    blk_point [iblk, V, idx0 t, idx1 t, idx2 t, idx3 t]

/-- The kernel's output array. -/
def G (c : Dev nD) : S16384x2048.Idx → EReal := fun i =>
  Y m c ⟨(i 0).val / 2048, by have : (i 0).val < 16384 := (i 0).isLt; omega⟩ ⟨(i 0).val % 2048, by omega⟩ ⟨(i 1).val, (i 1).isLt⟩

theorem final (c : Dev nD) : (dats m 0 c).arrAt 4 cfg0.N = G m c := by
  refine (dats m 0 c).arrAt_eq_of_covers 4 _ (by decide +kernel) fun t hf y => ?_
  blk_simp
  have hy0 : (y 0).val < 512 := (y 0).isLt
  have hy1 : (y 1).val < 2048 := (y 1).isLt
  have hN : t.val < 32 := lt_of_lt_of_eq t.isLt N_0
  have e0 : (((cfg0.win 4).blk t).view.emb y 0).val = 512 * (t.val) + (y 0).val := by blk_simp [idx4 t]; omega
  have e1 : (((cfg0.win 4).blk t).view.emb y 1).val = (y 1).val := by blk_simp [idx4 t]
  refine out_at m c t y _ _ _ ?_ ?_ ?_
  · show (((cfg0.win 4).blk t).view.emb y 0).val / 2048 = _
    omega
  · show (((cfg0.win 4).blk t).view.emb y 0).val % 2048 = _
    omega
  · show (((cfg0.win 4).blk t).view.emb y 1).val = _
    omega

end Cert.OutOne
-- ==== Proof.OutOneClaim.lean ====
/- The attention's output projection: the kernel and the reference leave the same array. -/
module

public import proofs.«01_k».proof.Defs
public import proofs.«01_k».proof.Proof.OutOneModel
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Frame
public import proofs.«01_k».proof.Proof.Gen.Kernel5Ideal
public import proofs.«01_k».proof.Proof.Gen.Reference5Ideal

@[expose] public section

set_option maxRecDepth 16384

noncomputable section

namespace Cert.OutOne

open Cert.Kernel5Ideal Cert.Kernel5Ideal.Gen Idealize.ShloMosaic Idealize.ShloMosaic.TcCoe Idealize.SL.Sem

variable (m : (ℓ : Loc nD τ sig) → Buf (Elt Ideal) ℓ)

open Cert.Reference5Ideal.Read

/-- The reference's result, from the kernel's arguments, is the kernel's output array. -/
theorem ref_value (c : Dev nD) : val_main_v6 (F := Ideal) (arg0 m c) (arg1 m c) (arg2 m c) (arg3 m c) = G m c := by
  funext i
  have h0 : (i 0).val < 16384 := (i 0).isLt
  have h1 : (i 1).val < 2048 := (i 1).isLt
  rw [← ix2_eta i]
  pointwise [val_main_v6, val_main_v5, val_main_v4, val_main_v3, val_main_v2, val_main_v1, val_main_v0, G, Y]
  blk_ext

/-- Kernel and reference compute the same function over the extended reals. -/
theorem algebraic : Cert.algebraic_Kernel5Ideal_Reference5Ideal := by
  intro m g m' g' _ hargs
  refine ⟨fun c => G m c, ?_, ?_⟩
  · exact (θ_run defs _ _).mono (fun r h c => ⟨(h c).1.trans (final m c), (h c).2⟩) (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    obtain ⟨a0, a1, a2, a3⟩ := hargs c
    rw [a0, a1, a2, a3]
    exact (val_main_v6_eq _ _ _ _).trans (ref_value m c)

/-- The frames of the kernel, of the idealised kernel and of the reference. -/
theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.OutOne
-- ==== Proof.UpModel.lean ====
/- The up-projection of keys and values: where the kernel's blocks lie, and what both programs compute. -/
module

public import proofs.«01_k».proof.Proof.Gen.Kernel6Ideal.Value
public import Idealize.ShloMosaic.Lib.Pipeline.ValueKit.Held
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Up

open Cert.Kernel6Ideal Cert.Kernel6Ideal.Gen Idealize.ShloMosaic Idealize.ShloMosaic.TcCoe Idealize.SL.Sem

variable (m : (ℓ : Loc nD τ sig) → Buf (Elt Ideal) ℓ)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

abbrev arg0 (c : Dev nD) : S8x2048x512.Idx → EReal := m ((c : Thread nD τ).loc main_arg0)
abbrev arg1 (c : Dev nD) : S512x4096.Idx → EReal := m ((c : Thread nD τ).loc main_arg1)

/-- Output feature `e` of token `s` of batch `b`. -/
def Y (c : Dev nD) (b : Fin 8) (s : Fin 2048) (e : Fin 4096) : EReal := ∑ k : Fin 512, arg0 m c (ix3 b s k) * arg1 m c (ix2 k e)

theorem out_at (c : Dev nD) (t : Fin cfg0.N) (y : S1024x2048.Idx) (b : Fin 8) (s : Fin 2048) (e : Fin 4096)
    (hb : b.val = t.val / 4) (hs : s.val = 1024 * (t.val / 2 % 2) + (y 0).val) (he : e.val = 2048 * (t.val % 2) + (y 1).val) :
    (dats m 0 c).after 2 t y = Y m c b s e := by
  rw [after0_2]
  frame_out
  pointwise [k0_pay1, Y]
  blk_point [iblk, V, idx0 t, idx1 t]

/-- The kernel's output array. -/
def G (c : Dev nD) : S16384x4096.Idx → EReal := fun i =>
  Y m c ⟨(i 0).val / 2048, by have : (i 0).val < 16384 := (i 0).isLt; omega⟩ ⟨(i 0).val % 2048, by omega⟩ ⟨(i 1).val, (i 1).isLt⟩

theorem final (c : Dev nD) : (dats m 0 c).arrAt 2 cfg0.N = G m c := by
  refine (dats m 0 c).arrAt_eq_of_covers 2 _ (by decide +kernel) fun t hf y => ?_
  blk_simp
  have hy0 : (y 0).val < 1024 := (y 0).isLt
  have hy1 : (y 1).val < 2048 := (y 1).isLt
  have hN : t.val < 32 := lt_of_lt_of_eq t.isLt N_0
  have e0 : (((cfg0.win 2).blk t).view.emb y 0).val = 1024 * (t.val / 2) + (y 0).val := by blk_simp [idx2 t]; omega
  have e1 : (((cfg0.win 2).blk t).view.emb y 1).val = 2048 * (t.val % 2) + (y 1).val := by blk_simp [idx2 t]; omega
  refine out_at m c t y _ _ _ ?_ ?_ ?_
  · show (((cfg0.win 2).blk t).view.emb y 0).val / 2048 = _
    omega
  · show (((cfg0.win 2).blk t).view.emb y 0).val % 2048 = _
    omega
  · show (((cfg0.win 2).blk t).view.emb y 1).val = _
    omega

end Cert.Up
-- ==== Proof.UpClaim.lean ====
/- The up-projection of keys and values: the kernel and the reference leave the same array. -/
module

public import proofs.«01_k».proof.Defs
public import proofs.«01_k».proof.Proof.UpModel
public import proofs.«01_k».proof.Proof.Gen.Reference6Ideal.Run
public import proofs.«01_k».proof.Proof.Gen.Reference6Ideal.Read
public import proofs.«01_k».proof.Proof.Gen.Kernel6
public import proofs.«01_k».proof.Proof.Gen.Kernel6.Frame
public import proofs.«01_k».proof.Proof.Gen.Kernel6Ideal
public import proofs.«01_k».proof.Proof.Gen.Reference6Ideal

@[expose] public section

set_option maxRecDepth 16384

noncomputable section

namespace Cert.Up

open Cert.Kernel6Ideal Cert.Kernel6Ideal.Gen Idealize.ShloMosaic Idealize.ShloMosaic.TcCoe Idealize.SL.Sem

variable (m : (ℓ : Loc nD τ sig) → Buf (Elt Ideal) ℓ)

open Cert.Reference6Ideal.Read

/-- The reference's result, from the kernel's arguments, is the kernel's output array. -/
theorem ref_value (c : Dev nD) : val_main_v3 (F := Ideal) (arg0 m c) (arg1 m c) = G m c := by
  funext i
  have h0 : (i 0).val < 16384 := (i 0).isLt
  have h1 : (i 1).val < 4096 := (i 1).isLt
  rw [← ix2_eta i]
  pointwise [val_main_v3, val_main_v2, val_main_v1, val_main_v0, G, Y]
  blk_ext

/-- Kernel and reference compute the same function over the extended reals. -/
theorem algebraic : Cert.algebraic_Kernel6Ideal_Reference6Ideal := by
  intro m g m' g' _ hargs
  refine ⟨fun c => G m c, ?_, ?_⟩
  · exact (θ_run defs _ _).mono (fun r h c => ⟨(h c).1.trans (final m c), (h c).2⟩) (Cert.Kernel6Ideal.Value.run_blocks (F := Ideal) m g)
  · refine (θ_run Cert.Reference6Ideal.defs _ _).mono (fun r h c => ⟨(h c).1.trans ?_, (h c).2⟩) (Cert.Reference6Ideal.Value.run (F := Ideal) m' g')
    obtain ⟨a0, a1⟩ := hargs c
    rw [a0, a1]
    exact (val_main_v3_eq _ _).trans (ref_value m c)

/-- The frames of the kernel, of the idealised kernel and of the reference. -/
theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Up
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.AttnClaim
public import proofs.«01_k».proof.Proof.MlpClaim
public import proofs.«01_k».proof.Proof.ProjClaim
public import proofs.«01_k».proof.Proof.OutTwoClaim
public import proofs.«01_k».proof.Proof.OutOneClaim
public import proofs.«01_k».proof.Proof.UpClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem Cert.Kernel

/-- The attention's frames: as written, and with its scale named. -/
theorem frame_kernel : Cert.quiescent_Kernel := fun m ρ _ => Cert.Kernel.Gen.frame m ρ

theorem frame_ideal : Cert.quiescent_KernelIdeal := fun m ρ _ => Cert.KernelIdeal.Gen.frame m ρ

/-- The references leave their arguments as they were, and declare no semaphore. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The one literal that the idealised attention names is the scale. -/
theorem preserves : Cert.preserves_Kernel_KernelIdeal := IdealRules.named_const.statement Cert.KernelIdeal.κ "scale" .f32 0x3DD53B95#32 _ rfl

/-- The same frames under the precondition. -/
theorem frame_ideal_finite : Cert.quiescent_KernelIdeal_pre_finite := fun m ρ _ => Cert.KernelIdeal.Gen.frame m ρ

theorem frame_ref_finite : Cert.quiescent_ReferenceIdeal_pre_finite := fun m ρ _ => frame_ref m ρ trivial

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts,
  frame_kernel, frame_ideal, frame_ideal_finite, frame_ref, frame_ref_finite, Cert.Mlp.frame_kernel, Cert.Mlp.frame_ideal, frame_ref2,
  Cert.Proj.frame_kernel, Cert.Proj.frame_ideal, Cert.Proj.frame_ref,
  Cert.OutTwo.frame_kernel, Cert.OutTwo.frame_ideal, Cert.OutTwo.frame_ref,
  Cert.OutOne.frame_kernel, Cert.OutOne.frame_ideal, Cert.OutOne.frame_ref,
  Cert.Up.frame_kernel, Cert.Up.frame_ideal, Cert.Up.frame_ref,
  preserves, Cert.Attn.algebraic, trivial, Cert.Mlp.algebraic, trivial, Cert.Proj.algebraic, trivial, Cert.OutTwo.algebraic, trivial, Cert.OutOne.algebraic, trivial, Cert.Up.algebraic⟩

end Cert.Proof

end
